-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v305) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S100000x128 : Shape := ⟨2, ![100000, 128]⟩
abbrev S2x3200000 : Shape := ⟨2, ![2, 3200000]⟩
abbrev S3200000 : Shape := ⟨1, ![3200000]⟩
abbrev S100000 : Shape := ⟨1, ![100000]⟩
abbrev S7x128x128 : Shape := ⟨3, ![7, 128, 128]⟩
abbrev S4x128x128 : Shape := ⟨3, ![4, 128, 128]⟩
abbrev S4x128 : Shape := ⟨2, ![4, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S7x128x128 : S_.BroadcastsInDim S7x128x128 (![] : Fin 0 → Fin S7x128x128.rank)
  reducesTo_S7x128x128_S_d0_1_2 : S7x128x128.ReducesTo [0, 1, 2] S_
  bcast_S_S2x3200000 : S_.BroadcastsInDim S2x3200000 (![] : Fin 0 → Fin S2x3200000.rank)
  reducesTo_S2x3200000_S_d0_1 : S2x3200000.ReducesTo [0, 1] S_
  bcast_S_S3200000 : S_.BroadcastsInDim S3200000 (![] : Fin 0 → Fin S3200000.rank)
  reducesTo_S3200000_S_d0 : S3200000.ReducesTo [0] S_

variable [Facts]

def fn_part1 {F : FTy → Type} [FloatOps F] (main_arg3 : IVec S3200000 32) (main_v15 : IVec S_ 1) (main_c_5 : IVec S_ 32) : IVec S_ 1 :=
  let main_v16 : IVec S3200000 32 := broadcastInDim S3200000 ![] bcast_S_S3200000 main_c_5
  let main_v17 : IVec S3200000 1 := cmpi .sge main_arg3 main_v16
  let main_c_6 : IVec S_ 32 := constantI S_ 32 7#32
  let main_v18 : IVec S3200000 32 := broadcastInDim S3200000 ![] bcast_S_S3200000 main_c_6
  let main_v19 : IVec S3200000 1 := cmpi .slt main_arg3 main_v18
  let main_v20 : IVec S3200000 1 := andi main_v17 main_v19
  let main_c_7 : IVec S_ 1 := constantI S_ 1 1#1
  let main_v21 : IVec S_ 1 := (fun x v => Host.reduce IntOp.andi x v reducesTo_S3200000_S_d0 h_S_) main_v20 main_c_7
  let main_v22 : IVec S_ 1 := andi main_v15 main_v21
  main_v22

def fn {F : FTy → Type} [FloatOps F] (main_arg0 : FVec F S100000x128 .f32) (main_arg1 : FVec F S100000x128 .f32) (main_arg2 : IVec S2x3200000 32) (main_arg3 : IVec S3200000 32) (main_arg4 : IVec S100000 32) (main_arg5 : FVec F S7x128x128 .f32) (main_arg6 : FVec F S4x128x128 .f32) (main_arg7 : FVec F S4x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S7x128x128 .f32 := Host.absf main_arg5
  let main_cst_0 : FVec F S_ .f32 := constant S_ .f32 0x7F800000#32
  let main_v5 : FVec F S7x128x128 .f32 := broadcastInDim S7x128x128 ![] bcast_S_S7x128x128 main_cst_0
  let main_v6 : IVec S7x128x128 1 := cmpf .olt main_v4 main_v5
  let main_c_1 : IVec S_ 1 := constantI S_ 1 1#1
  let main_v7 : IVec S_ 1 := (fun x v => Host.reduce IntOp.andi x v reducesTo_S7x128x128_S_d0_1_2 h_S_) main_v6 main_c_1
  let main_v8 : IVec S_ 1 := andi main_v3 main_v7
  let main_c_2 : IVec S_ 32 := constantI S_ 32 0#32
  let main_v9 : IVec S2x3200000 32 := broadcastInDim S2x3200000 ![] bcast_S_S2x3200000 main_c_2
  let main_v10 : IVec S2x3200000 1 := cmpi .sge main_arg2 main_v9
  let main_c_3 : IVec S_ 32 := constantI S_ 32 100000#32
  let main_v11 : IVec S2x3200000 32 := broadcastInDim S2x3200000 ![] bcast_S_S2x3200000 main_c_3
  let main_v12 : IVec S2x3200000 1 := cmpi .slt main_arg2 main_v11
  let main_v13 : IVec S2x3200000 1 := andi main_v10 main_v12
  let main_c_4 : IVec S_ 1 := constantI S_ 1 1#1
  let main_v14 : IVec S_ 1 := (fun x v => Host.reduce IntOp.andi x v reducesTo_S2x3200000_S_d0_1 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S100000x128 : Shape := ⟨2, ![100000, 128]⟩
abbrev S2x3200000 : Shape := ⟨2, ![2, 3200000]⟩
abbrev S3200000 : Shape := ⟨1, ![3200000]⟩
abbrev S100000 : Shape := ⟨1, ![100000]⟩
abbrev S7x128x128 : Shape := ⟨3, ![7, 128, 128]⟩
abbrev S4x128x128 : Shape := ⟨3, ![4, 128, 128]⟩
abbrev S4x128 : Shape := ⟨2, ![4, 128]⟩
abbrev S1x2560000 : Shape := ⟨2, ![1, 2560000]⟩
abbrev S2560000 : Shape := ⟨1, ![2560000]⟩
abbrev S100000x1 : Shape := ⟨2, ![100000, 1]⟩
abbrev S_ : Shape := ⟨0, ![]⟩
abbrev S700000x128 : Shape := ⟨2, ![700000, 128]⟩
abbrev S2560000x1 : Shape := ⟨2, ![2560000, 1]⟩
abbrev S1 : Shape := ⟨1, ![1]⟩
abbrev S1x1 : Shape := ⟨2, ![1, 1]⟩
abbrev S2560000x128 : Shape := ⟨2, ![2560000, 128]⟩
abbrev S700000 : Shape := ⟨1, ![700000]⟩
abbrev S100000x896 : Shape := ⟨2, ![100000, 896]⟩
abbrev S100000x7 : Shape := ⟨2, ![100000, 7]⟩
abbrev S2000x896 : Shape := ⟨2, ![2000, 896]⟩
abbrev S2000x7 : Shape := ⟨2, ![2000, 7]⟩
abbrev S2000x128 : Shape := ⟨2, ![2000, 128]⟩
abbrev S2000x1 : Shape := ⟨2, ![2000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 68
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x3200000, .i32⟩
  | .hbm, ⟨3, _⟩ => ⟨S3200000, .i32⟩
  | .hbm, ⟨4, _⟩ => ⟨S100000, .i32⟩
  | .hbm, ⟨5, _⟩ => ⟨S7x128x128, .f32⟩
  | .hbm, ⟨6, _⟩ => ⟨S4x128x128, .f32⟩
  | .hbm, ⟨7, _⟩ => ⟨S4x128, .f32⟩
  | .hbm, ⟨8, _⟩ => ⟨S1x2560000, .i32⟩
  | .hbm, ⟨9, _⟩ => ⟨S2560000, .i32⟩
  | .hbm, ⟨10, _⟩ => ⟨S1x2560000, .i32⟩
  | .hbm, ⟨11, _⟩ => ⟨S2560000, .i32⟩
  | .hbm, ⟨12, _⟩ => ⟨S2560000, .i32⟩
  | .hbm, ⟨13, _⟩ => ⟨S100000x1, .i32⟩
  | .hbm, ⟨14, _⟩ => ⟨S_, .i32⟩
  | .hbm, ⟨15, _⟩ => ⟨S2560000, .i32⟩
  | .hbm, ⟨16, _⟩ => ⟨S2560000, .i32⟩
  | .hbm, ⟨17, _⟩ => ⟨S2560000, .i32⟩
  | .hbm, ⟨18, _⟩ => ⟨S_, .f32⟩
  | .hbm, ⟨19, _⟩ => ⟨S700000x128, .f32⟩
  | .hbm, ⟨20, _⟩ => ⟨S_, .i32⟩
  | .hbm, ⟨21, _⟩ => ⟨S2560000, .i32⟩
  | .hbm, ⟨22, _⟩ => ⟨S2560000, .i1⟩
  | .hbm, ⟨23, _⟩ => ⟨S_, .i32⟩
  | .hbm, ⟨24, _⟩ => ⟨S2560000, .i32⟩
  | .hbm, ⟨25, _⟩ => ⟨S2560000, .i32⟩
  | .hbm, ⟨26, _⟩ => ⟨S2560000, .i32⟩
  | .hbm, ⟨27, _⟩ => ⟨S2560000x1, .i32⟩
  | .hbm, ⟨28, _⟩ => ⟨S1, .i32⟩
  | .hbm, ⟨29, _⟩ => ⟨S_, .i32⟩
  | .hbm, ⟨30, _⟩ => ⟨S2560000x1, .i32⟩
  | .hbm, ⟨31, _⟩ => ⟨S2560000x1, .i1⟩
  | .hbm, ⟨32, _⟩ => ⟨S1x1, .i32⟩
  | .hbm, ⟨33, _⟩ => ⟨S2560000x1, .i32⟩
  | .hbm, ⟨34, _⟩ => ⟨S2560000x1, .i1⟩
  | .hbm, ⟨35, _⟩ => ⟨S2560000x1, .i1⟩
  | .hbm, ⟨36, _⟩ => ⟨S_, .i1⟩
  | .hbm, ⟨37, _⟩ => ⟨S2560000, .i1⟩
  | .hbm, ⟨38, _⟩ => ⟨S2560000x128, .f32⟩
  | .hbm, ⟨39, _⟩ => ⟨S2560000x128, .i1⟩
  | .hbm, ⟨40, _⟩ => ⟨S_, .f32⟩
  | .hbm, ⟨41, _⟩ => ⟨S2560000x128, .f32⟩
  | .hbm, ⟨42, _⟩ => ⟨S2560000x128, .f32⟩
  | .hbm, ⟨43, _⟩ => ⟨S_, .i32⟩
  | .hbm, ⟨44, _⟩ => ⟨S2560000, .i32⟩
  | .hbm, ⟨45, _⟩ => ⟨S2560000, .i1⟩
  | .hbm, ⟨46, _⟩ => ⟨S_, .i32⟩
  | .hbm, ⟨47, _⟩ => ⟨S2560000, .i32⟩
  | .hbm, ⟨48, _⟩ => ⟨S2560000, .i32⟩
  | .hbm, ⟨49, _⟩ => ⟨S2560000, .i32⟩
  | .hbm, ⟨50, _⟩ => ⟨S2560000x1, .i32⟩
  | .hbm, ⟨51, _⟩ => ⟨S700000x128, .f32⟩
  | .hbm, ⟨52, _⟩ => ⟨S_, .f32⟩
  | .hbm, ⟨53, _⟩ => ⟨S700000, .f32⟩
  | .hbm, ⟨54, _⟩ => ⟨S_, .i32⟩
  | .hbm, ⟨55, _⟩ => ⟨S2560000, .i32⟩
  | .hbm, ⟨56, _⟩ => ⟨S2560000, .i1⟩
  | .hbm, ⟨57, _⟩ => ⟨S_, .i32⟩
  | .hbm, ⟨58, _⟩ => ⟨S2560000, .i32⟩
  | .hbm, ⟨59, _⟩ => ⟨S2560000, .i32⟩
  | .hbm, ⟨60, _⟩ => ⟨S2560000, .i32⟩
  | .hbm, ⟨61, _⟩ => ⟨S2560000x1, .i32⟩
  | .hbm, ⟨62, _⟩ => ⟨S_, .f32⟩
  | .hbm, ⟨63, _⟩ => ⟨S2560000, .f32⟩
  | .hbm, ⟨64, _⟩ => ⟨S700000, .f32⟩
  | .hbm, ⟨65, _⟩ => ⟨S100000x896, .f32⟩
  | .hbm, ⟨66, _⟩ => ⟨S100000x7, .f32⟩
  | .hbm, ⟨67, _⟩ => ⟨S100000x128, .f32⟩
  | .local _ .vmem, ⟨0, _⟩ => ⟨S2000x896, .f32⟩
  | .local _ .vmem, ⟨1, _⟩ => ⟨S2000x896, .f32⟩
  | .local _ .vmem, ⟨2, _⟩ => ⟨S2000x7, .f32⟩
  | .local _ .vmem, ⟨3, _⟩ => ⟨S2000x7, .f32⟩
  | .local _ .vmem, ⟨4, _⟩ => ⟨S2000x128, .f32⟩
  | .local _ .vmem, ⟨5, _⟩ => ⟨S2000x128, .f32⟩
  | .local _ .vmem, ⟨6, _⟩ => ⟨S2000x1, .i32⟩
  | .local _ .vmem, ⟨7, _⟩ => ⟨S2000x1, .i32⟩
  | .local _ .vmem, ⟨8, _⟩ => ⟨S7x128x128, .f32⟩
  | .local _ .vmem, ⟨9, _⟩ => ⟨S4x128x128, .f32⟩
  | .local _ .vmem, ⟨10, _⟩ => ⟨S4x128, .f32⟩
  | .local _ .vmem, ⟨11, _⟩ => ⟨S2000x128, .f32⟩
  | .local _ .vmem, ⟨12, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v10 : Ref sig .tc := ⟨.hbm, 42, rfl⟩
abbrev main_c_0 : Ref sig .tc := ⟨.hbm, 43, rfl⟩
abbrev main_v11 : Ref sig .tc := ⟨.hbm, 44, rfl⟩
abbrev main_v12 : Ref sig .tc := ⟨.hbm, 45, rfl⟩
abbrev main_c_1 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_2 : Ref sig .tc := ⟨.hbm, 52, rfl⟩
abbrev main_v18 : Ref sig .tc := ⟨.hbm, 53, rfl⟩
abbrev main_c_3 : Ref sig .tc := ⟨.hbm, 54, rfl⟩
abbrev main_v19 : Ref sig .tc := ⟨.hbm, 55, rfl⟩
abbrev main_v20 : Ref sig .tc := ⟨.hbm, 56, rfl⟩
abbrev main_c_4 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_cst_5 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S7x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S100000 : Shape := ⟨1, ![100000]⟩
abbrev S7x128x128 : Shape := ⟨3, ![7, 128, 128]⟩
abbrev S4x128x128 : Shape := ⟨3, ![4, 128, 128]⟩
abbrev S4x128 : Shape := ⟨2, ![4, 128]⟩
abbrev S_ : Shape := ⟨0, ![]⟩
abbrev S1x3200000 : Shape := ⟨2, ![1, 3200000]⟩
abbrev S3200000x1 : Shape := ⟨2, ![3200000, 1]⟩
abbrev S1 : Shape := ⟨1, ![1]⟩
abbrev S1x1 : Shape := ⟨2, ![1, 1]⟩
abbrev S3200000x128 : Shape := ⟨2, ![3200000, 128]⟩
abbrev S1x128x128 : Shape := ⟨3, ![1, 128, 128]⟩
abbrev S128x128 : Shape := ⟨2, ![128, 128]⟩
abbrev S100000x1 : Shape := ⟨2, ![100000, 1]⟩
abbrev S1x128 : Shape := ⟨2, ![1, 128]⟩
abbrev S128 : Shape := ⟨1, ![128]⟩

abbrev nBuf : Space → Nat
  | .hbm => 530
  | .vmem => 0
  | .smem => 0
  | _ => 0

abbrev hbmTy0_0 (i : Nat) : BufTy := match i % 128 with
  | 0 => ⟨S100000x128, .f32⟩
  | 1 => ⟨S100000x128, .f32⟩
  | 2 => ⟨S2x3200000, .i32⟩
  | 3 => ⟨S3200000, .i32⟩
  | 4 => ⟨S100000, .i32⟩
  | 5 => ⟨S7x128x128, .f32⟩
  | 6 => ⟨S4x128x128, .f32⟩
  | 7 => ⟨S4x128, .f32⟩
  | 8 => ⟨S3200000, .i32⟩
  | 9 => ⟨S_, .i32⟩
  | 10 => ⟨S3200000, .i32⟩
  | 11 => ⟨S3200000, .i1⟩
  | 12 => ⟨S1x3200000, .i32⟩
  | 13 => ⟨S3200000, .i32⟩
  | 14 => ⟨S1x3200000, .i32⟩
  | 15 => ⟨S3200000, .i32⟩
  | 16 => ⟨S_, .f32⟩
  | 17 => ⟨S100000x128, .f32⟩
  | 18 => ⟨S_, .i32⟩
  | 19 => ⟨S3200000, .i32⟩
  | 20 => ⟨S3200000, .i1⟩
  | 21 => ⟨S3200000, .i1⟩
  | 22 => ⟨S3200000, .i1⟩
  | 23 => ⟨S3200000, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S1, .i32⟩
  | 33 => ⟨S_, .i32⟩
  | 34 => ⟨S3200000x1, .i32⟩
  | 35 => ⟨S3200000x1, .i1⟩
  | 36 => ⟨S1x1, .i32⟩
  | 37 => ⟨S3200000x1, .i32⟩
  | 38 => ⟨S3200000x1, .i1⟩
  | 39 => ⟨S3200000x1, .i1⟩
  | 40 => ⟨S_, .i1⟩
  | 41 => ⟨S3200000, .i1⟩
  | 42 => ⟨S3200000x128, .f32⟩
  | 43 => ⟨S3200000x128, .i1⟩
  | 44 => ⟨S_, .f32⟩
  | 45 => ⟨S3200000x128, .f32⟩
  | 46 => ⟨S3200000x128, .f32⟩
  | 47 => ⟨S1x128x128, .f32⟩
  | 48 => ⟨S128x128, .f32⟩
  | 49 => ⟨S3200000x128, .f32⟩
  | 50 => ⟨S3200000x1, .f32⟩
  | 51 => ⟨S3200000x128, .f32⟩
  | 52 => ⟨S3200000x128, .f32⟩
  | 53 => ⟨S_, .f32⟩
  | 54 => ⟨S100000x128, .f32⟩
  | 55 => ⟨S_, .i32⟩
  | 56 => ⟨S3200000, .i32⟩
  | 57 => ⟨S3200000, .i1⟩
  | 58 => ⟨S_, .i32⟩
  | 59 => ⟨S3200000, .i32⟩
  | 60 => ⟨S3200000, .i32⟩
  | 61 => ⟨S3200000, .i32⟩
  | 62 => ⟨S3200000x1, .i32⟩
  | 63 => ⟨S100000x128, .f32⟩
  | 64 => ⟨S_, .f32⟩
  | 65 => ⟨S100000, .f32⟩
  | 66 => ⟨S_, .i32⟩
  | 67 => ⟨S3200000, .i32⟩
  | 68 => ⟨S3200000, .i1⟩
  | 69 => ⟨S_, .i32⟩
  | 70 => ⟨S3200000, .i32⟩
  | 71 => ⟨S3200000, .i32⟩
  | 72 => ⟨S3200000, .i32⟩
  | 73 => ⟨S3200000x1, .i32⟩
  | 74 => ⟨S100000, .f32⟩
  | 75 => ⟨S_, .f32⟩
  | 76 => ⟨S100000, .f32⟩
  | 77 => ⟨S100000, .f32⟩
  | 78 => ⟨S100000x1, .f32⟩
  | 79 => ⟨S100000x128, .f32⟩
  | 80 => ⟨S100000x128, .f32⟩
  | 81 => ⟨S100000x128, .f32⟩
  | 82 => ⟨S_, .i32⟩
  | 83 => ⟨S3200000, .i32⟩
  | 84 => ⟨S3200000, .i1⟩
  | 85 => ⟨S3200000, .i1⟩
  | 86 => ⟨S3200000, .i1⟩
  | 87 => ⟨S3200000, .f32⟩
  | 88 => ⟨S_, .i32⟩
  | 89 => ⟨S3200000, .i32⟩
  | 90 => ⟨S3200000, .i1⟩
  | 91 => ⟨S_, .i32⟩
  | 92 => ⟨S3200000, .i32⟩
  | 93 => ⟨S3200000, .i32⟩
  | 94 => ⟨S3200000, .i32⟩
  | 95 => ⟨S3200000x1, .i32⟩
  | 96 => ⟨S1, .i32⟩
  | 97 => ⟨S_, .i32⟩
  | 98 => ⟨S3200000x1, .i32⟩
  | 99 => ⟨S3200000x1, .i1⟩
  | 100 => ⟨S1x1, .i32⟩
  | 101 => ⟨S3200000x1, .i32⟩
  | 102 => ⟨S3200000x1, .i1⟩
  | 103 => ⟨S3200000x1, .i1⟩
  | 104 => ⟨S_, .i1⟩
  | 105 => ⟨S3200000, .i1⟩
  | 106 => ⟨S3200000x128, .f32⟩
  | 107 => ⟨S3200000x128, .i1⟩
  | 108 => ⟨S_, .f32⟩
  | 109 => ⟨S3200000x128, .f32⟩
  | 110 => ⟨S3200000x128, .f32⟩
  | 111 => ⟨S1x128x128, .f32⟩
  | 112 => ⟨S128x128, .f32⟩
  | 113 => ⟨S3200000x128, .f32⟩
  | 114 => ⟨S3200000x1, .f32⟩
  | 115 => ⟨S3200000x128, .f32⟩
  | 116 => ⟨S3200000x128, .f32⟩
  | 117 => ⟨S_, .f32⟩
  | 118 => ⟨S100000x128, .f32⟩
  | 119 => ⟨S_, .i32⟩
  | 120 => ⟨S3200000, .i32⟩
  | 121 => ⟨S3200000, .i1⟩
  | 122 => ⟨S_, .i32⟩
  | 123 => ⟨S3200000, .i32⟩
  | 124 => ⟨S3200000, .i32⟩
  | 125 => ⟨S3200000, .i32⟩
  | 126 => ⟨S3200000x1, .i32⟩
  | 127 => ⟨S100000x128, .f32⟩
  | _ => ⟨S100000x128, .f32⟩

abbrev hbmTy0_1 (i : Nat) : BufTy := match i % 128 with
  | 0 => ⟨S_, .f32⟩
  | 1 => ⟨S100000, .f32⟩
  | 2 => ⟨S_, .i32⟩
  | 3 => ⟨S3200000, .i32⟩
  | 4 => ⟨S3200000, .i1⟩
  | 5 => ⟨S_, .i32⟩
  | 6 => ⟨S3200000, .i32⟩
  | 7 => ⟨S3200000, .i32⟩
  | 8 => ⟨S3200000, .i32⟩
  | 9 => ⟨S3200000x1, .i32⟩
  | 10 => ⟨S100000, .f32⟩
  | 11 => ⟨S_, .f32⟩
  | 12 => ⟨S100000, .f32⟩
  | 13 => ⟨S100000, .f32⟩
  | 14 => ⟨S100000x1, .f32⟩
  | 15 => ⟨S100000x128, .f32⟩
  | 16 => ⟨S100000x128, .f32⟩
  | 17 => ⟨S100000x128, .f32⟩
  | 18 => ⟨S_, .i32⟩
  | 19 => ⟨S3200000, .i32⟩
  | 20 => ⟨S3200000, .i1⟩
  | 21 => ⟨S3200000, .i1⟩
  | 22 => ⟨S3200000, .i1⟩
  | 23 => ⟨S3200000, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S1, .i32⟩
  | 33 => ⟨S_, .i32⟩
  | 34 => ⟨S3200000x1, .i32⟩
  | 35 => ⟨S3200000x1, .i1⟩
  | 36 => ⟨S1x1, .i32⟩
  | 37 => ⟨S3200000x1, .i32⟩
  | 38 => ⟨S3200000x1, .i1⟩
  | 39 => ⟨S3200000x1, .i1⟩
  | 40 => ⟨S_, .i1⟩
  | 41 => ⟨S3200000, .i1⟩
  | 42 => ⟨S3200000x128, .f32⟩
  | 43 => ⟨S3200000x128, .i1⟩
  | 44 => ⟨S_, .f32⟩
  | 45 => ⟨S3200000x128, .f32⟩
  | 46 => ⟨S3200000x128, .f32⟩
  | 47 => ⟨S1x128x128, .f32⟩
  | 48 => ⟨S128x128, .f32⟩
  | 49 => ⟨S3200000x128, .f32⟩
  | 50 => ⟨S3200000x1, .f32⟩
  | 51 => ⟨S3200000x128, .f32⟩
  | 52 => ⟨S3200000x128, .f32⟩
  | 53 => ⟨S_, .f32⟩
  | 54 => ⟨S100000x128, .f32⟩
  | 55 => ⟨S_, .i32⟩
  | 56 => ⟨S3200000, .i32⟩
  | 57 => ⟨S3200000, .i1⟩
  | 58 => ⟨S_, .i32⟩
  | 59 => ⟨S3200000, .i32⟩
  | 60 => ⟨S3200000, .i32⟩
  | 61 => ⟨S3200000, .i32⟩
  | 62 => ⟨S3200000x1, .i32⟩
  | 63 => ⟨S100000x128, .f32⟩
  | 64 => ⟨S_, .f32⟩
  | 65 => ⟨S100000, .f32⟩
  | 66 => ⟨S_, .i32⟩
  | 67 => ⟨S3200000, .i32⟩
  | 68 => ⟨S3200000, .i1⟩
  | 69 => ⟨S_, .i32⟩
  | 70 => ⟨S3200000, .i32⟩
  | 71 => ⟨S3200000, .i32⟩
  | 72 => ⟨S3200000, .i32⟩
  | 73 => ⟨S3200000x1, .i32⟩
  | 74 => ⟨S100000, .f32⟩
  | 75 => ⟨S_, .f32⟩
  | 76 => ⟨S100000, .f32⟩
  | 77 => ⟨S100000, .f32⟩
  | 78 => ⟨S100000x1, .f32⟩
  | 79 => ⟨S100000x128, .f32⟩
  | 80 => ⟨S100000x128, .f32⟩
  | 81 => ⟨S100000x128, .f32⟩
  | 82 => ⟨S_, .i32⟩
  | 83 => ⟨S3200000, .i32⟩
  | 84 => ⟨S3200000, .i1⟩
  | 85 => ⟨S3200000, .i1⟩
  | 86 => ⟨S3200000, .i1⟩
  | 87 => ⟨S3200000, .f32⟩
  | 88 => ⟨S_, .i32⟩
  | 89 => ⟨S3200000, .i32⟩
  | 90 => ⟨S3200000, .i1⟩
  | 91 => ⟨S_, .i32⟩
  | 92 => ⟨S3200000, .i32⟩
  | 93 => ⟨S3200000, .i32⟩
  | 94 => ⟨S3200000, .i32⟩
  | 95 => ⟨S3200000x1, .i32⟩
  | 96 => ⟨S1, .i32⟩
  | 97 => ⟨S_, .i32⟩
  | 98 => ⟨S3200000x1, .i32⟩
  | 99 => ⟨S3200000x1, .i1⟩
  | 100 => ⟨S1x1, .i32⟩
  | 101 => ⟨S3200000x1, .i32⟩
  | 102 => ⟨S3200000x1, .i1⟩
  | 103 => ⟨S3200000x1, .i1⟩
  | 104 => ⟨S_, .i1⟩
  | 105 => ⟨S3200000, .i1⟩
  | 106 => ⟨S3200000x128, .f32⟩
  | 107 => ⟨S3200000x128, .i1⟩
  | 108 => ⟨S_, .f32⟩
  | 109 => ⟨S3200000x128, .f32⟩
  | 110 => ⟨S3200000x128, .f32⟩
  | 111 => ⟨S1x128x128, .f32⟩
  | 112 => ⟨S128x128, .f32⟩
  | 113 => ⟨S3200000x128, .f32⟩
  | 114 => ⟨S3200000x1, .f32⟩
  | 115 => ⟨S3200000x128, .f32⟩
  | 116 => ⟨S3200000x128, .f32⟩
  | 117 => ⟨S_, .f32⟩
  | 118 => ⟨S100000x128, .f32⟩
  | 119 => ⟨S_, .i32⟩
  | 120 => ⟨S3200000, .i32⟩
  | 121 => ⟨S3200000, .i1⟩
  | 122 => ⟨S_, .i32⟩
  | 123 => ⟨S3200000, .i32⟩
  | 124 => ⟨S3200000, .i32⟩
  | 125 => ⟨S3200000, .i32⟩
  | 126 => ⟨S3200000x1, .i32⟩
  | 127 => ⟨S100000x128, .f32⟩
  | _ => ⟨S100000x128, .f32⟩

abbrev hbmTy0_2 (i : Nat) : BufTy := match i % 128 with
  | 0 => ⟨S_, .f32⟩
  | 1 => ⟨S100000, .f32⟩
  | 2 => ⟨S_, .i32⟩
  | 3 => ⟨S3200000, .i32⟩
  | 4 => ⟨S3200000, .i1⟩
  | 5 => ⟨S_, .i32⟩
  | 6 => ⟨S3200000, .i32⟩
  | 7 => ⟨S3200000, .i32⟩
  | 8 => ⟨S3200000, .i32⟩
  | 9 => ⟨S3200000x1, .i32⟩
  | 10 => ⟨S100000, .f32⟩
  | 11 => ⟨S_, .f32⟩
  | 12 => ⟨S100000, .f32⟩
  | 13 => ⟨S100000, .f32⟩
  | 14 => ⟨S100000x1, .f32⟩
  | 15 => ⟨S100000x128, .f32⟩
  | 16 => ⟨S100000x128, .f32⟩
  | 17 => ⟨S100000x128, .f32⟩
  | 18 => ⟨S_, .i32⟩
  | 19 => ⟨S3200000, .i32⟩
  | 20 => ⟨S3200000, .i1⟩
  | 21 => ⟨S3200000, .i1⟩
  | 22 => ⟨S3200000, .i1⟩
  | 23 => ⟨S3200000, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S1, .i32⟩
  | 33 => ⟨S_, .i32⟩
  | 34 => ⟨S3200000x1, .i32⟩
  | 35 => ⟨S3200000x1, .i1⟩
  | 36 => ⟨S1x1, .i32⟩
  | 37 => ⟨S3200000x1, .i32⟩
  | 38 => ⟨S3200000x1, .i1⟩
  | 39 => ⟨S3200000x1, .i1⟩
  | 40 => ⟨S_, .i1⟩
  | 41 => ⟨S3200000, .i1⟩
  | 42 => ⟨S3200000x128, .f32⟩
  | 43 => ⟨S3200000x128, .i1⟩
  | 44 => ⟨S_, .f32⟩
  | 45 => ⟨S3200000x128, .f32⟩
  | 46 => ⟨S3200000x128, .f32⟩
  | 47 => ⟨S1x128x128, .f32⟩
  | 48 => ⟨S128x128, .f32⟩
  | 49 => ⟨S3200000x128, .f32⟩
  | 50 => ⟨S3200000x1, .f32⟩
  | 51 => ⟨S3200000x128, .f32⟩
  | 52 => ⟨S3200000x128, .f32⟩
  | 53 => ⟨S_, .f32⟩
  | 54 => ⟨S100000x128, .f32⟩
  | 55 => ⟨S_, .i32⟩
  | 56 => ⟨S3200000, .i32⟩
  | 57 => ⟨S3200000, .i1⟩
  | 58 => ⟨S_, .i32⟩
  | 59 => ⟨S3200000, .i32⟩
  | 60 => ⟨S3200000, .i32⟩
  | 61 => ⟨S3200000, .i32⟩
  | 62 => ⟨S3200000x1, .i32⟩
  | 63 => ⟨S100000x128, .f32⟩
  | 64 => ⟨S_, .f32⟩
  | 65 => ⟨S100000, .f32⟩
  | 66 => ⟨S_, .i32⟩
  | 67 => ⟨S3200000, .i32⟩
  | 68 => ⟨S3200000, .i1⟩
  | 69 => ⟨S_, .i32⟩
  | 70 => ⟨S3200000, .i32⟩
  | 71 => ⟨S3200000, .i32⟩
  | 72 => ⟨S3200000, .i32⟩
  | 73 => ⟨S3200000x1, .i32⟩
  | 74 => ⟨S100000, .f32⟩
  | 75 => ⟨S_, .f32⟩
  | 76 => ⟨S100000, .f32⟩
  | 77 => ⟨S100000, .f32⟩
  | 78 => ⟨S100000x1, .f32⟩
  | 79 => ⟨S100000x128, .f32⟩
  | 80 => ⟨S100000x128, .f32⟩
  | 81 => ⟨S100000x128, .f32⟩
  | 82 => ⟨S_, .i32⟩
  | 83 => ⟨S3200000, .i32⟩
  | 84 => ⟨S3200000, .i1⟩
  | 85 => ⟨S3200000, .i1⟩
  | 86 => ⟨S3200000, .i1⟩
  | 87 => ⟨S3200000, .f32⟩
  | 88 => ⟨S_, .i32⟩
  | 89 => ⟨S3200000, .i32⟩
  | 90 => ⟨S3200000, .i1⟩
  | 91 => ⟨S_, .i32⟩
  | 92 => ⟨S3200000, .i32⟩
  | 93 => ⟨S3200000, .i32⟩
  | 94 => ⟨S3200000, .i32⟩
  | 95 => ⟨S3200000x1, .i32⟩
  | 96 => ⟨S1, .i32⟩
  | 97 => ⟨S_, .i32⟩
  | 98 => ⟨S3200000x1, .i32⟩
  | 99 => ⟨S3200000x1, .i1⟩
  | 100 => ⟨S1x1, .i32⟩
  | 101 => ⟨S3200000x1, .i32⟩
  | 102 => ⟨S3200000x1, .i1⟩
  | 103 => ⟨S3200000x1, .i1⟩
  | 104 => ⟨S_, .i1⟩
  | 105 => ⟨S3200000, .i1⟩
  | 106 => ⟨S3200000x128, .f32⟩
  | 107 => ⟨S3200000x128, .i1⟩
  | 108 => ⟨S_, .f32⟩
  | 109 => ⟨S3200000x128, .f32⟩
  | 110 => ⟨S3200000x128, .f32⟩
  | 111 => ⟨S1x128x128, .f32⟩
  | 112 => ⟨S128x128, .f32⟩
  | 113 => ⟨S3200000x128, .f32⟩
  | 114 => ⟨S3200000x1, .f32⟩
  | 115 => ⟨S3200000x128, .f32⟩
  | 116 => ⟨S3200000x128, .f32⟩
  | 117 => ⟨S_, .f32⟩
  | 118 => ⟨S100000x128, .f32⟩
  | 119 => ⟨S_, .i32⟩
  | 120 => ⟨S3200000, .i32⟩
  | 121 => ⟨S3200000, .i1⟩
  | 122 => ⟨S_, .i32⟩
  | 123 => ⟨S3200000, .i32⟩
  | 124 => ⟨S3200000, .i32⟩
  | 125 => ⟨S3200000, .i32⟩
  | 126 => ⟨S3200000x1, .i32⟩
  | 127 => ⟨S100000x128, .f32⟩
  | _ => ⟨S100000x128, .f32⟩

abbrev hbmTy0_3 (i : Nat) : BufTy := match i % 128 with
  | 0 => ⟨S_, .f32⟩
  | 1 => ⟨S100000, .f32⟩
  | 2 => ⟨S_, .i32⟩
  | 3 => ⟨S3200000, .i32⟩
  | 4 => ⟨S3200000, .i1⟩
  | 5 => ⟨S_, .i32⟩
  | 6 => ⟨S3200000, .i32⟩
  | 7 => ⟨S3200000, .i32⟩
  | 8 => ⟨S3200000, .i32⟩
  | 9 => ⟨S3200000x1, .i32⟩
  | 10 => ⟨S100000, .f32⟩
  | 11 => ⟨S_, .f32⟩
  | 12 => ⟨S100000, .f32⟩
  | 13 => ⟨S100000, .f32⟩
  | 14 => ⟨S100000x1, .f32⟩
  | 15 => ⟨S100000x128, .f32⟩
  | 16 => ⟨S100000x128, .f32⟩
  | 17 => ⟨S100000x128, .f32⟩
  | 18 => ⟨S_, .i32⟩
  | 19 => ⟨S3200000, .i32⟩
  | 20 => ⟨S3200000, .i1⟩
  | 21 => ⟨S3200000, .i1⟩
  | 22 => ⟨S3200000, .i1⟩
  | 23 => ⟨S3200000, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S1, .i32⟩
  | 33 => ⟨S_, .i32⟩
  | 34 => ⟨S3200000x1, .i32⟩
  | 35 => ⟨S3200000x1, .i1⟩
  | 36 => ⟨S1x1, .i32⟩
  | 37 => ⟨S3200000x1, .i32⟩
  | 38 => ⟨S3200000x1, .i1⟩
  | 39 => ⟨S3200000x1, .i1⟩
  | 40 => ⟨S_, .i1⟩
  | 41 => ⟨S3200000, .i1⟩
  | 42 => ⟨S3200000x128, .f32⟩
  | 43 => ⟨S3200000x128, .i1⟩
  | 44 => ⟨S_, .f32⟩
  | 45 => ⟨S3200000x128, .f32⟩
  | 46 => ⟨S3200000x128, .f32⟩
  | 47 => ⟨S1x128x128, .f32⟩
  | 48 => ⟨S128x128, .f32⟩
  | 49 => ⟨S3200000x128, .f32⟩
  | 50 => ⟨S3200000x1, .f32⟩
  | 51 => ⟨S3200000x128, .f32⟩
  | 52 => ⟨S3200000x128, .f32⟩
  | 53 => ⟨S_, .f32⟩
  | 54 => ⟨S100000x128, .f32⟩
  | 55 => ⟨S_, .i32⟩
  | 56 => ⟨S3200000, .i32⟩
  | 57 => ⟨S3200000, .i1⟩
  | 58 => ⟨S_, .i32⟩
  | 59 => ⟨S3200000, .i32⟩
  | 60 => ⟨S3200000, .i32⟩
  | 61 => ⟨S3200000, .i32⟩
  | 62 => ⟨S3200000x1, .i32⟩
  | 63 => ⟨S100000x128, .f32⟩
  | 64 => ⟨S_, .f32⟩
  | 65 => ⟨S100000, .f32⟩
  | 66 => ⟨S_, .i32⟩
  | 67 => ⟨S3200000, .i32⟩
  | 68 => ⟨S3200000, .i1⟩
  | 69 => ⟨S_, .i32⟩
  | 70 => ⟨S3200000, .i32⟩
  | 71 => ⟨S3200000, .i32⟩
  | 72 => ⟨S3200000, .i32⟩
  | 73 => ⟨S3200000x1, .i32⟩
  | 74 => ⟨S100000, .f32⟩
  | 75 => ⟨S_, .f32⟩
  | 76 => ⟨S100000, .f32⟩
  | 77 => ⟨S100000, .f32⟩
  | 78 => ⟨S100000x1, .f32⟩
  | 79 => ⟨S100000x128, .f32⟩
  | 80 => ⟨S100000x128, .f32⟩
  | 81 => ⟨S100000x128, .f32⟩
  | 82 => ⟨S_, .i32⟩
  | 83 => ⟨S100000, .i32⟩
  | 84 => ⟨S100000, .i1⟩
  | 85 => ⟨S100000, .f32⟩
  | 86 => ⟨S100000x1, .f32⟩
  | 87 => ⟨S1x128x128, .f32⟩
  | 88 => ⟨S128x128, .f32⟩
  | 89 => ⟨S100000x128, .f32⟩
  | 90 => ⟨S1x128, .f32⟩
  | 91 => ⟨S128, .f32⟩
  | 92 => ⟨S1x128, .f32⟩
  | 93 => ⟨S100000x128, .f32⟩
  | 94 => ⟨S100000x128, .f32⟩
  | 95 => ⟨S100000x128, .f32⟩
  | 96 => ⟨S100000x128, .f32⟩
  | 97 => ⟨S100000x128, .f32⟩
  | 98 => ⟨S_, .i32⟩
  | 99 => ⟨S100000, .i32⟩
  | 100 => ⟨S100000, .i1⟩
  | 101 => ⟨S100000, .f32⟩
  | 102 => ⟨S100000x1, .f32⟩
  | 103 => ⟨S1x128x128, .f32⟩
  | 104 => ⟨S128x128, .f32⟩
  | 105 => ⟨S100000x128, .f32⟩
  | 106 => ⟨S1x128, .f32⟩
  | 107 => ⟨S128, .f32⟩
  | 108 => ⟨S1x128, .f32⟩
  | 109 => ⟨S100000x128, .f32⟩
  | 110 => ⟨S100000x128, .f32⟩
  | 111 => ⟨S100000x128, .f32⟩
  | 112 => ⟨S100000x128, .f32⟩
  | 113 => ⟨S100000x128, .f32⟩
  | 114 => ⟨S_, .i32⟩
  | 115 => ⟨S100000, .i32⟩
  | 116 => ⟨S100000, .i1⟩
  | 117 => ⟨S100000, .f32⟩
  | 118 => ⟨S100000x1, .f32⟩
  | 119 => ⟨S1x128x128, .f32⟩
  | 120 => ⟨S128x128, .f32⟩
  | 121 => ⟨S100000x128, .f32⟩
  | 122 => ⟨S1x128, .f32⟩
  | 123 => ⟨S128, .f32⟩
  | 124 => ⟨S1x128, .f32⟩
  | 125 => ⟨S100000x128, .f32⟩
  | 126 => ⟨S100000x128, .f32⟩
  | 127 => ⟨S100000x128, .f32⟩
  | _ => ⟨S100000x128, .f32⟩

abbrev hbmTy0_4 (i : Nat) : BufTy := match i % 128 with
  | 0 => ⟨S100000x128, .f32⟩
  | 1 => ⟨S100000x128, .f32⟩
  | 2 => ⟨S_, .i32⟩
  | 3 => ⟨S100000, .i32⟩
  | 4 => ⟨S100000, .i1⟩
  | 5 => ⟨S100000, .f32⟩
  | 6 => ⟨S100000x1, .f32⟩
  | 7 => ⟨S1x128x128, .f32⟩
  | 8 => ⟨S128x128, .f32⟩
  | 9 => ⟨S100000x128, .f32⟩
  | 10 => ⟨S1x128, .f32⟩
  | 11 => ⟨S128, .f32⟩
  | 12 => ⟨S1x128, .f32⟩
  | 13 => ⟨S100000x128, .f32⟩
  | 14 => ⟨S100000x128, .f32⟩
  | 15 => ⟨S100000x128, .f32⟩
  | 16 => ⟨S100000x128, .f32⟩
  | 17 => ⟨S100000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_cst_1 : Ref sig .tc := ⟨.hbm, 53, rfl⟩
abbrev main_v20 : Ref sig .tc := ⟨.hbm, 54, rfl⟩
abbrev main_c_2 : Ref sig .tc := ⟨.hbm, 55, rfl⟩
abbrev main_v21 : Ref sig .tc := ⟨.hbm, 56, rfl⟩
abbrev main_v22 : Ref sig .tc := ⟨.hbm, 57, rfl⟩
abbrev main_c_3 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_4 : Ref sig .tc := ⟨.hbm, 64, rfl⟩
abbrev main_v28 : Ref sig .tc := ⟨.hbm, 65, rfl⟩
abbrev main_c_5 : Ref sig .tc := ⟨.hbm, 66, rfl⟩
abbrev main_v29 : Ref sig .tc := ⟨.hbm, 67, rfl⟩
abbrev main_v30 : Ref sig .tc := ⟨.hbm, 68, rfl⟩
abbrev main_c_6 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_cst_7 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_c_8 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_call1_c : Ref sig .tc := ⟨.hbm, 88, rfl⟩
abbrev main_call1_v0 : Ref sig .tc := ⟨.hbm, 89, rfl⟩
abbrev main_call1_v1 : Ref sig .tc := ⟨.hbm, 90, rfl⟩
abbrev main_call1_c_0 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_c_1 : Ref sig .tc := ⟨.hbm, 96, rfl⟩
abbrev main_call1_c_2 : Ref sig .tc := ⟨.hbm, 97, rfl⟩
abbrev main_call1_v6 : Ref sig .tc := ⟨.hbm, 98, rfl⟩
abbrev main_call1_v7 : Ref sig .tc := ⟨.hbm, 99, rfl⟩
abbrev main_call1_v8 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_call1_c_3 : Ref sig .tc := ⟨.hbm, 104, rfl⟩
abbrev main_call1_v12 : Ref sig .tc := ⟨.hbm, 105, rfl⟩
abbrev main_call1_v13 : Ref sig .tc := ⟨.hbm, 106, rfl⟩
abbrev main_call1_v14 : Ref sig .tc := ⟨.hbm, 107, rfl⟩
abbrev main_call1_cst : Ref sig .tc := ⟨.hbm, 108, rfl⟩
abbrev main_call1_v15 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_cst_9 : Ref sig .tc := ⟨.hbm, 117, rfl⟩
abbrev main_v54 : Ref sig .tc := ⟨.hbm, 118, rfl⟩
abbrev main_c_10 : Ref sig .tc := ⟨.hbm, 119, rfl⟩
abbrev main_v55 : Ref sig .tc := ⟨.hbm, 120, rfl⟩
abbrev main_v56 : Ref sig .tc := ⟨.hbm, 121, rfl⟩
abbrev main_c_11 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_cst_12 : Ref sig .tc := ⟨.hbm, 128, rfl⟩
abbrev main_v62 : Ref sig .tc := ⟨.hbm, 129, rfl⟩
abbrev main_c_13 : Ref sig .tc := ⟨.hbm, 130, rfl⟩
abbrev main_v63 : Ref sig .tc := ⟨.hbm, 131, rfl⟩
abbrev main_v64 : Ref sig .tc := ⟨.hbm, 132, rfl⟩
abbrev main_c_14 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_cst_15 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_c_16 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_call2_c : Ref sig .tc := ⟨.hbm, 152, rfl⟩
abbrev main_call2_v0 : Ref sig .tc := ⟨.hbm, 153, rfl⟩
abbrev main_call2_v1 : Ref sig .tc := ⟨.hbm, 154, rfl⟩
abbrev main_call2_c_0 : Ref sig .tc := ⟨.hbm, 155, rfl⟩
abbrev main_call2_v2 : Ref sig .tc := ⟨.hbm, 156, rfl⟩
abbrev main_call2_v3 : Ref sig .tc := ⟨.hbm, 157, rfl⟩
abbrev main_call2_v4 : Ref sig .tc := ⟨.hbm, 158, rfl⟩
abbrev main_call2_v5 : Ref sig .tc := ⟨.hbm, 159, rfl⟩
abbrev main_call2_c_1 : Ref sig .tc := ⟨.hbm, 160, rfl⟩
abbrev main_call2_c_2 : Ref sig .tc := ⟨.hbm, 161, rfl⟩
abbrev main_call2_v6 : Ref sig .tc := ⟨.hbm, 162, rfl⟩
abbrev main_call2_v7 : Ref sig .tc := ⟨.hbm, 163, rfl⟩
abbrev main_call2_v8 : Ref sig .tc := ⟨.hbm, 164, rfl⟩
abbrev main_call2_v9 : Ref sig .tc := ⟨.hbm, 165, rfl⟩
abbrev main_call2_v10 : Ref sig .tc := ⟨.hbm, 166, rfl⟩
abbrev main_call2_v11 : Ref sig .tc := ⟨.hbm, 167, rfl⟩
abbrev main_call2_c_3 : Ref sig .tc := ⟨.hbm, 168, rfl⟩
abbrev main_call2_v12 : Ref sig .tc := ⟨.hbm, 169, rfl⟩
abbrev main_call2_v13 : Ref sig .tc := ⟨.hbm, 170, rfl⟩
abbrev main_call2_v14 : Ref sig .tc := ⟨.hbm, 171, rfl⟩
abbrev main_call2_cst : Ref sig .tc := ⟨.hbm, 172, rfl⟩
abbrev main_call2_v15 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_cst_17 : Ref sig .tc := ⟨.hbm, 181, rfl⟩
abbrev main_v88 : Ref sig .tc := ⟨.hbm, 182, rfl⟩
abbrev main_c_18 : Ref sig .tc := ⟨.hbm, 183, rfl⟩
abbrev main_v89 : Ref sig .tc := ⟨.hbm, 184, rfl⟩
abbrev main_v90 : Ref sig .tc := ⟨.hbm, 185, rfl⟩
abbrev main_c_19 : Ref sig .tc := ⟨.hbm, 186, rfl⟩
abbrev main_v91 : Ref sig .tc := ⟨.hbm, 187, rfl⟩
abbrev main_v92 : Ref sig .tc := ⟨.hbm, 188, rfl⟩
abbrev main_v93 : Ref sig .tc := ⟨.hbm, 189, rfl⟩
abbrev main_v94 : Ref sig .tc := ⟨.hbm, 190, rfl⟩
abbrev main_v95 : Ref sig .tc := ⟨.hbm, 191, rfl⟩
abbrev main_cst_20 : Ref sig .tc := ⟨.hbm, 192, rfl⟩
abbrev main_v96 : Ref sig .tc := ⟨.hbm, 193, rfl⟩
abbrev main_c_21 : Ref sig .tc := ⟨.hbm, 194, rfl⟩
abbrev main_v97 : Ref sig .tc := ⟨.hbm, 195, rfl⟩
abbrev main_v98 : Ref sig .tc := ⟨.hbm, 196, rfl⟩
abbrev main_c_22 : Ref sig .tc := ⟨.hbm, 197, rfl⟩
abbrev main_v99 : Ref sig .tc := ⟨.hbm, 198, rfl⟩
abbrev main_v100 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_cst_23 : Ref sig .tc := ⟨.hbm, 203, rfl⟩
abbrev main_v104 : Ref sig .tc := ⟨.hbm, 204, rfl⟩
abbrev main_v105 : Ref sig .tc := ⟨.hbm, 205, rfl⟩
abbrev main_v106 : Ref sig .tc := ⟨.hbm, 206, rfl⟩
abbrev main_v107 : Ref sig .tc := ⟨.hbm, 207, rfl⟩
abbrev main_v108 : Ref sig .tc := ⟨.hbm, 208, rfl⟩
abbrev main_v109 : Ref sig .tc := ⟨.hbm, 209, rfl⟩
abbrev main_c_24 : Ref sig .tc := ⟨.hbm, 210, rfl⟩
abbrev main_v110 : Ref sig .tc := ⟨.hbm, 211, rfl⟩
abbrev main_v111 : Ref sig .tc := ⟨.hbm, 212, rfl⟩
abbrev main_v112 : Ref sig .tc := ⟨.hbm, 213, rfl⟩
abbrev main_v113 : Ref sig .tc := ⟨.hbm, 214, rfl⟩
abbrev main_v114 : Ref sig .tc := ⟨.hbm, 215, rfl⟩
abbrev main_call3_c : Ref sig .tc := ⟨.hbm, 216, rfl⟩
abbrev main_call3_v0 : Ref sig .tc := ⟨.hbm, 217, rfl⟩
abbrev main_call3_v1 : Ref sig .tc := ⟨.hbm, 218, rfl⟩
abbrev main_call3_c_0 : Ref sig .tc := ⟨.hbm, 219, rfl⟩
abbrev main_call3_v2 : Ref sig .tc := ⟨.hbm, 220, rfl⟩
abbrev main_call3_v3 : Ref sig .tc := ⟨.hbm, 221, rfl⟩
abbrev main_call3_v4 : Ref sig .tc := ⟨.hbm, 222, rfl⟩
abbrev main_call3_v5 : Ref sig .tc := ⟨.hbm, 223, rfl⟩
abbrev main_call3_c_1 : Ref sig .tc := ⟨.hbm, 224, rfl⟩
abbrev main_call3_c_2 : Ref sig .tc := ⟨.hbm, 225, rfl⟩
abbrev main_call3_v6 : Ref sig .tc := ⟨.hbm, 226, rfl⟩
abbrev main_call3_v7 : Ref sig .tc := ⟨.hbm, 227, rfl⟩
abbrev main_call3_v8 : Ref sig .tc := ⟨.hbm, 228, rfl⟩
abbrev main_call3_v9 : Ref sig .tc := ⟨.hbm, 229, rfl⟩
abbrev main_call3_v10 : Ref sig .tc := ⟨.hbm, 230, rfl⟩
abbrev main_call3_v11 : Ref sig .tc := ⟨.hbm, 231, rfl⟩
abbrev main_call3_c_3 : Ref sig .tc := ⟨.hbm, 232, rfl⟩
abbrev main_call3_v12 : Ref sig .tc := ⟨.hbm, 233, rfl⟩
abbrev main_call3_v13 : Ref sig .tc := ⟨.hbm, 234, rfl⟩
abbrev main_call3_v14 : Ref sig .tc := ⟨.hbm, 235, rfl⟩
abbrev main_call3_cst : Ref sig .tc := ⟨.hbm, 236, rfl⟩
abbrev main_call3_v15 : Ref sig .tc := ⟨.hbm, 237, rfl⟩
abbrev main_v115 : Ref sig .tc := ⟨.hbm, 238, rfl⟩
abbrev main_v116 : Ref sig .tc := ⟨.hbm, 239, rfl⟩
abbrev main_v117 : Ref sig .tc := ⟨.hbm, 240, rfl⟩
abbrev main_v118 : Ref sig .tc := ⟨.hbm, 241, rfl⟩
abbrev main_v119 : Ref sig .tc := ⟨.hbm, 242, rfl⟩
abbrev main_v120 : Ref sig .tc := ⟨.hbm, 243, rfl⟩
abbrev main_v121 : Ref sig .tc := ⟨.hbm, 244, rfl⟩
abbrev main_cst_25 : Ref sig .tc := ⟨.hbm, 245, rfl⟩
abbrev main_v122 : Ref sig .tc := ⟨.hbm, 246, rfl⟩
abbrev main_c_26 : Ref sig .tc := ⟨.hbm, 247, rfl⟩
abbrev main_v123 : Ref sig .tc := ⟨.hbm, 248, rfl⟩
abbrev main_v124 : Ref sig .tc := ⟨.hbm, 249, rfl⟩
abbrev main_c_27 : Ref sig .tc := ⟨.hbm, 250, rfl⟩
abbrev main_v125 : Ref sig .tc := ⟨.hbm, 251, rfl⟩
abbrev main_v126 : Ref sig .tc := ⟨.hbm, 252, rfl⟩
abbrev main_v127 : Ref sig .tc := ⟨.hbm, 253, rfl⟩
abbrev main_v128 : Ref sig .tc := ⟨.hbm, 254, rfl⟩
abbrev main_v129 : Ref sig .tc := ⟨.hbm, 255, rfl⟩
abbrev main_cst_28 : Ref sig .tc := ⟨.hbm, 256, rfl⟩
abbrev main_v130 : Ref sig .tc := ⟨.hbm, 257, rfl⟩
abbrev main_c_29 : Ref sig .tc := ⟨.hbm, 258, rfl⟩
abbrev main_v131 : Ref sig .tc := ⟨.hbm, 259, rfl⟩
abbrev main_v132 : Ref sig .tc := ⟨.hbm, 260, rfl⟩
abbrev main_c_30 : Ref sig .tc := ⟨.hbm, 261, rfl⟩
abbrev main_v133 : Ref sig .tc := ⟨.hbm, 262, rfl⟩
abbrev main_v134 : Ref sig .tc := ⟨.hbm, 263, rfl⟩
abbrev main_v135 : Ref sig .tc := ⟨.hbm, 264, rfl⟩
abbrev main_v136 : Ref sig .tc := ⟨.hbm, 265, rfl⟩
abbrev main_v137 : Ref sig .tc := ⟨.hbm, 266, rfl⟩
abbrev main_cst_31 : Ref sig .tc := ⟨.hbm, 267, rfl⟩
abbrev main_v138 : Ref sig .tc := ⟨.hbm, 268, rfl⟩
abbrev main_v139 : Ref sig .tc := ⟨.hbm, 269, rfl⟩
abbrev main_v140 : Ref sig .tc := ⟨.hbm, 270, rfl⟩
abbrev main_v141 : Ref sig .tc := ⟨.hbm, 271, rfl⟩
abbrev main_v142 : Ref sig .tc := ⟨.hbm, 272, rfl⟩
abbrev main_v143 : Ref sig .tc := ⟨.hbm, 273, rfl⟩
abbrev main_c_32 : Ref sig .tc := ⟨.hbm, 274, rfl⟩
abbrev main_v144 : Ref sig .tc := ⟨.hbm, 275, rfl⟩
abbrev main_v145 : Ref sig .tc := ⟨.hbm, 276, rfl⟩
abbrev main_v146 : Ref sig .tc := ⟨.hbm, 277, rfl⟩
abbrev main_v147 : Ref sig .tc := ⟨.hbm, 278, rfl⟩
abbrev main_v148 : Ref sig .tc := ⟨.hbm, 279, rfl⟩
abbrev main_call4_c : Ref sig .tc := ⟨.hbm, 280, rfl⟩
abbrev main_call4_v0 : Ref sig .tc := ⟨.hbm, 281, rfl⟩
abbrev main_call4_v1 : Ref sig .tc := ⟨.hbm, 282, rfl⟩
abbrev main_call4_c_0 : Ref sig .tc := ⟨.hbm, 283, rfl⟩
abbrev main_call4_v2 : Ref sig .tc := ⟨.hbm, 284, rfl⟩
abbrev main_call4_v3 : Ref sig .tc := ⟨.hbm, 285, rfl⟩
abbrev main_call4_v4 : Ref sig .tc := ⟨.hbm, 286, rfl⟩
abbrev main_call4_v5 : Ref sig .tc := ⟨.hbm, 287, rfl⟩
abbrev main_call4_c_1 : Ref sig .tc := ⟨.hbm, 288, rfl⟩
abbrev main_call4_c_2 : Ref sig .tc := ⟨.hbm, 289, rfl⟩
abbrev main_call4_v6 : Ref sig .tc := ⟨.hbm, 290, rfl⟩
abbrev main_call4_v7 : Ref sig .tc := ⟨.hbm, 291, rfl⟩
abbrev main_call4_v8 : Ref sig .tc := ⟨.hbm, 292, rfl⟩
abbrev main_call4_v9 : Ref sig .tc := ⟨.hbm, 293, rfl⟩
abbrev main_call4_v10 : Ref sig .tc := ⟨.hbm, 294, rfl⟩
abbrev main_call4_v11 : Ref sig .tc := ⟨.hbm, 295, rfl⟩
abbrev main_call4_c_3 : Ref sig .tc := ⟨.hbm, 296, rfl⟩
abbrev main_call4_v12 : Ref sig .tc := ⟨.hbm, 297, rfl⟩
abbrev main_call4_v13 : Ref sig .tc := ⟨.hbm, 298, rfl⟩
abbrev main_call4_v14 : Ref sig .tc := ⟨.hbm, 299, rfl⟩
abbrev main_call4_cst : Ref sig .tc := ⟨.hbm, 300, rfl⟩
abbrev main_call4_v15 : Ref sig .tc := ⟨.hbm, 301, rfl⟩
abbrev main_v149 : Ref sig .tc := ⟨.hbm, 302, rfl⟩
abbrev main_v150 : Ref sig .tc := ⟨.hbm, 303, rfl⟩
abbrev main_v151 : Ref sig .tc := ⟨.hbm, 304, rfl⟩
abbrev main_v152 : Ref sig .tc := ⟨.hbm, 305, rfl⟩
abbrev main_v153 : Ref sig .tc := ⟨.hbm, 306, rfl⟩
abbrev main_v154 : Ref sig .tc := ⟨.hbm, 307, rfl⟩
abbrev main_v155 : Ref sig .tc := ⟨.hbm, 308, rfl⟩
abbrev main_cst_33 : Ref sig .tc := ⟨.hbm, 309, rfl⟩
abbrev main_v156 : Ref sig .tc := ⟨.hbm, 310, rfl⟩
abbrev main_c_34 : Ref sig .tc := ⟨.hbm, 311, rfl⟩
abbrev main_v157 : Ref sig .tc := ⟨.hbm, 312, rfl⟩
abbrev main_v158 : Ref sig .tc := ⟨.hbm, 313, rfl⟩
abbrev main_c_35 : Ref sig .tc := ⟨.hbm, 314, rfl⟩
abbrev main_v159 : Ref sig .tc := ⟨.hbm, 315, rfl⟩
abbrev main_v160 : Ref sig .tc := ⟨.hbm, 316, rfl⟩
abbrev main_v161 : Ref sig .tc := ⟨.hbm, 317, rfl⟩
abbrev main_v162 : Ref sig .tc := ⟨.hbm, 318, rfl⟩
abbrev main_v163 : Ref sig .tc := ⟨.hbm, 319, rfl⟩
abbrev main_cst_36 : Ref sig .tc := ⟨.hbm, 320, rfl⟩
abbrev main_v164 : Ref sig .tc := ⟨.hbm, 321, rfl⟩
abbrev main_c_37 : Ref sig .tc := ⟨.hbm, 322, rfl⟩
abbrev main_v165 : Ref sig .tc := ⟨.hbm, 323, rfl⟩
abbrev main_v166 : Ref sig .tc := ⟨.hbm, 324, rfl⟩
abbrev main_c_38 : Ref sig .tc := ⟨.hbm, 325, rfl⟩
abbrev main_v167 : Ref sig .tc := ⟨.hbm, 326, rfl⟩
abbrev main_v168 : Ref sig .tc := ⟨.hbm, 327, rfl⟩
abbrev main_v169 : Ref sig .tc := ⟨.hbm, 328, rfl⟩
abbrev main_v170 : Ref sig .tc := ⟨.hbm, 329, rfl⟩
abbrev main_v171 : Ref sig .tc := ⟨.hbm, 330, rfl⟩
abbrev main_cst_39 : Ref sig .tc := ⟨.hbm, 331, rfl⟩
abbrev main_v172 : Ref sig .tc := ⟨.hbm, 332, rfl⟩
abbrev main_v173 : Ref sig .tc := ⟨.hbm, 333, rfl⟩
abbrev main_v174 : Ref sig .tc := ⟨.hbm, 334, rfl⟩
abbrev main_v175 : Ref sig .tc := ⟨.hbm, 335, rfl⟩
abbrev main_v176 : Ref sig .tc := ⟨.hbm, 336, rfl⟩
abbrev main_v177 : Ref sig .tc := ⟨.hbm, 337, rfl⟩
abbrev main_c_40 : Ref sig .tc := ⟨.hbm, 338, rfl⟩
abbrev main_v178 : Ref sig .tc := ⟨.hbm, 339, rfl⟩
abbrev main_v179 : Ref sig .tc := ⟨.hbm, 340, rfl⟩
abbrev main_v180 : Ref sig .tc := ⟨.hbm, 341, rfl⟩
abbrev main_v181 : Ref sig .tc := ⟨.hbm, 342, rfl⟩
abbrev main_v182 : Ref sig .tc := ⟨.hbm, 343, rfl⟩
abbrev main_call5_c : Ref sig .tc := ⟨.hbm, 344, rfl⟩
abbrev main_call5_v0 : Ref sig .tc := ⟨.hbm, 345, rfl⟩
abbrev main_call5_v1 : Ref sig .tc := ⟨.hbm, 346, rfl⟩
abbrev main_call5_c_0 : Ref sig .tc := ⟨.hbm, 347, rfl⟩
abbrev main_call5_v2 : Ref sig .tc := ⟨.hbm, 348, rfl⟩
abbrev main_call5_v3 : Ref sig .tc := ⟨.hbm, 349, rfl⟩
abbrev main_call5_v4 : Ref sig .tc := ⟨.hbm, 350, rfl⟩
abbrev main_call5_v5 : Ref sig .tc := ⟨.hbm, 351, rfl⟩
abbrev main_call5_c_1 : Ref sig .tc := ⟨.hbm, 352, rfl⟩
abbrev main_call5_c_2 : Ref sig .tc := ⟨.hbm, 353, rfl⟩
abbrev main_call5_v6 : Ref sig .tc := ⟨.hbm, 354, rfl⟩
abbrev main_call5_v7 : Ref sig .tc := ⟨.hbm, 355, rfl⟩
abbrev main_call5_v8 : Ref sig .tc := ⟨.hbm, 356, rfl⟩
abbrev main_call5_v9 : Ref sig .tc := ⟨.hbm, 357, rfl⟩
abbrev main_call5_v10 : Ref sig .tc := ⟨.hbm, 358, rfl⟩
abbrev main_call5_v11 : Ref sig .tc := ⟨.hbm, 359, rfl⟩
abbrev main_call5_c_3 : Ref sig .tc := ⟨.hbm, 360, rfl⟩
abbrev main_call5_v12 : Ref sig .tc := ⟨.hbm, 361, rfl⟩
abbrev main_call5_v13 : Ref sig .tc := ⟨.hbm, 362, rfl⟩
abbrev main_call5_v14 : Ref sig .tc := ⟨.hbm, 363, rfl⟩
abbrev main_call5_cst : Ref sig .tc := ⟨.hbm, 364, rfl⟩
abbrev main_call5_v15 : Ref sig .tc := ⟨.hbm, 365, rfl⟩
abbrev main_v183 : Ref sig .tc := ⟨.hbm, 366, rfl⟩
abbrev main_v184 : Ref sig .tc := ⟨.hbm, 367, rfl⟩
abbrev main_v185 : Ref sig .tc := ⟨.hbm, 368, rfl⟩
abbrev main_v186 : Ref sig .tc := ⟨.hbm, 369, rfl⟩
abbrev main_v187 : Ref sig .tc := ⟨.hbm, 370, rfl⟩
abbrev main_v188 : Ref sig .tc := ⟨.hbm, 371, rfl⟩
abbrev main_v189 : Ref sig .tc := ⟨.hbm, 372, rfl⟩
abbrev main_cst_41 : Ref sig .tc := ⟨.hbm, 373, rfl⟩
abbrev main_v190 : Ref sig .tc := ⟨.hbm, 374, rfl⟩
abbrev main_c_42 : Ref sig .tc := ⟨.hbm, 375, rfl⟩
abbrev main_v191 : Ref sig .tc := ⟨.hbm, 376, rfl⟩
abbrev main_v192 : Ref sig .tc := ⟨.hbm, 377, rfl⟩
abbrev main_c_43 : Ref sig .tc := ⟨.hbm, 378, rfl⟩
abbrev main_v193 : Ref sig .tc := ⟨.hbm, 379, rfl⟩
abbrev main_v194 : Ref sig .tc := ⟨.hbm, 380, rfl⟩
abbrev main_v195 : Ref sig .tc := ⟨.hbm, 381, rfl⟩
abbrev main_v196 : Ref sig .tc := ⟨.hbm, 382, rfl⟩
abbrev main_v197 : Ref sig .tc := ⟨.hbm, 383, rfl⟩
abbrev main_cst_44 : Ref sig .tc := ⟨.hbm, 384, rfl⟩
abbrev main_v198 : Ref sig .tc := ⟨.hbm, 385, rfl⟩
abbrev main_c_45 : Ref sig .tc := ⟨.hbm, 386, rfl⟩
abbrev main_v199 : Ref sig .tc := ⟨.hbm, 387, rfl⟩
abbrev main_v200 : Ref sig .tc := ⟨.hbm, 388, rfl⟩
abbrev main_c_46 : Ref sig .tc := ⟨.hbm, 389, rfl⟩
abbrev main_v201 : Ref sig .tc := ⟨.hbm, 390, rfl⟩
abbrev main_v202 : Ref sig .tc := ⟨.hbm, 391, rfl⟩
abbrev main_v203 : Ref sig .tc := ⟨.hbm, 392, rfl⟩
abbrev main_v204 : Ref sig .tc := ⟨.hbm, 393, rfl⟩
abbrev main_v205 : Ref sig .tc := ⟨.hbm, 394, rfl⟩
abbrev main_cst_47 : Ref sig .tc := ⟨.hbm, 395, rfl⟩
abbrev main_v206 : Ref sig .tc := ⟨.hbm, 396, rfl⟩
abbrev main_v207 : Ref sig .tc := ⟨.hbm, 397, rfl⟩
abbrev main_v208 : Ref sig .tc := ⟨.hbm, 398, rfl⟩
abbrev main_v209 : Ref sig .tc := ⟨.hbm, 399, rfl⟩
abbrev main_v210 : Ref sig .tc := ⟨.hbm, 400, rfl⟩
abbrev main_v211 : Ref sig .tc := ⟨.hbm, 401, rfl⟩
abbrev main_c_48 : Ref sig .tc := ⟨.hbm, 402, rfl⟩
abbrev main_v212 : Ref sig .tc := ⟨.hbm, 403, rfl⟩
abbrev main_v213 : Ref sig .tc := ⟨.hbm, 404, rfl⟩
abbrev main_v214 : Ref sig .tc := ⟨.hbm, 405, rfl⟩
abbrev main_v215 : Ref sig .tc := ⟨.hbm, 406, rfl⟩
abbrev main_v216 : Ref sig .tc := ⟨.hbm, 407, rfl⟩
abbrev main_call6_c : Ref sig .tc := ⟨.hbm, 408, rfl⟩
abbrev main_call6_v0 : Ref sig .tc := ⟨.hbm, 409, rfl⟩
abbrev main_call6_v1 : Ref sig .tc := ⟨.hbm, 410, rfl⟩
abbrev main_call6_c_0 : Ref sig .tc := ⟨.hbm, 411, rfl⟩
abbrev main_call6_v2 : Ref sig .tc := ⟨.hbm, 412, rfl⟩
abbrev main_call6_v3 : Ref sig .tc := ⟨.hbm, 413, rfl⟩
abbrev main_call6_v4 : Ref sig .tc := ⟨.hbm, 414, rfl⟩
abbrev main_call6_v5 : Ref sig .tc := ⟨.hbm, 415, rfl⟩
abbrev main_call6_c_1 : Ref sig .tc := ⟨.hbm, 416, rfl⟩
abbrev main_call6_c_2 : Ref sig .tc := ⟨.hbm, 417, rfl⟩
abbrev main_call6_v6 : Ref sig .tc := ⟨.hbm, 418, rfl⟩
abbrev main_call6_v7 : Ref sig .tc := ⟨.hbm, 419, rfl⟩
abbrev main_call6_v8 : Ref sig .tc := ⟨.hbm, 420, rfl⟩
abbrev main_call6_v9 : Ref sig .tc := ⟨.hbm, 421, rfl⟩
abbrev main_call6_v10 : Ref sig .tc := ⟨.hbm, 422, rfl⟩
abbrev main_call6_v11 : Ref sig .tc := ⟨.hbm, 423, rfl⟩
abbrev main_call6_c_3 : Ref sig .tc := ⟨.hbm, 424, rfl⟩
abbrev main_call6_v12 : Ref sig .tc := ⟨.hbm, 425, rfl⟩
abbrev main_call6_v13 : Ref sig .tc := ⟨.hbm, 426, rfl⟩
abbrev main_call6_v14 : Ref sig .tc := ⟨.hbm, 427, rfl⟩
abbrev main_call6_cst : Ref sig .tc := ⟨.hbm, 428, rfl⟩
abbrev main_call6_v15 : Ref sig .tc := ⟨.hbm, 429, rfl⟩
abbrev main_v217 : Ref sig .tc := ⟨.hbm, 430, rfl⟩
abbrev main_v218 : Ref sig .tc := ⟨.hbm, 431, rfl⟩
abbrev main_v219 : Ref sig .tc := ⟨.hbm, 432, rfl⟩
abbrev main_v220 : Ref sig .tc := ⟨.hbm, 433, rfl⟩
abbrev main_v221 : Ref sig .tc := ⟨.hbm, 434, rfl⟩
abbrev main_v222 : Ref sig .tc := ⟨.hbm, 435, rfl⟩
abbrev main_v223 : Ref sig .tc := ⟨.hbm, 436, rfl⟩
abbrev main_cst_49 : Ref sig .tc := ⟨.hbm, 437, rfl⟩
abbrev main_v224 : Ref sig .tc := ⟨.hbm, 438, rfl⟩
abbrev main_c_50 : Ref sig .tc := ⟨.hbm, 439, rfl⟩
abbrev main_v225 : Ref sig .tc := ⟨.hbm, 440, rfl⟩
abbrev main_v226 : Ref sig .tc := ⟨.hbm, 441, rfl⟩
abbrev main_c_51 : Ref sig .tc := ⟨.hbm, 442, rfl⟩
abbrev main_v227 : Ref sig .tc := ⟨.hbm, 443, rfl⟩
abbrev main_v228 : Ref sig .tc := ⟨.hbm, 444, rfl⟩
abbrev main_v229 : Ref sig .tc := ⟨.hbm, 445, rfl⟩
abbrev main_v230 : Ref sig .tc := ⟨.hbm, 446, rfl⟩
abbrev main_v231 : Ref sig .tc := ⟨.hbm, 447, rfl⟩
abbrev main_cst_52 : Ref sig .tc := ⟨.hbm, 448, rfl⟩
abbrev main_v232 : Ref sig .tc := ⟨.hbm, 449, rfl⟩
abbrev main_c_53 : Ref sig .tc := ⟨.hbm, 450, rfl⟩
abbrev main_v233 : Ref sig .tc := ⟨.hbm, 451, rfl⟩
abbrev main_v234 : Ref sig .tc := ⟨.hbm, 452, rfl⟩
abbrev main_c_54 : Ref sig .tc := ⟨.hbm, 453, rfl⟩
abbrev main_v235 : Ref sig .tc := ⟨.hbm, 454, rfl⟩
abbrev main_v236 : Ref sig .tc := ⟨.hbm, 455, rfl⟩
abbrev main_v237 : Ref sig .tc := ⟨.hbm, 456, rfl⟩
abbrev main_v238 : Ref sig .tc := ⟨.hbm, 457, rfl⟩
abbrev main_v239 : Ref sig .tc := ⟨.hbm, 458, rfl⟩
abbrev main_cst_55 : Ref sig .tc := ⟨.hbm, 459, rfl⟩
abbrev main_v240 : Ref sig .tc := ⟨.hbm, 460, rfl⟩
abbrev main_v241 : Ref sig .tc := ⟨.hbm, 461, rfl⟩
abbrev main_v242 : Ref sig .tc := ⟨.hbm, 462, rfl⟩
abbrev main_v243 : Ref sig .tc := ⟨.hbm, 463, rfl⟩
abbrev main_v244 : Ref sig .tc := ⟨.hbm, 464, rfl⟩
abbrev main_v245 : Ref sig .tc := ⟨.hbm, 465, rfl⟩
abbrev main_c_56 : Ref sig .tc := ⟨.hbm, 466, rfl⟩
abbrev main_v246 : Ref sig .tc := ⟨.hbm, 467, rfl⟩
abbrev main_v247 : Ref sig .tc := ⟨.hbm, 468, rfl⟩
abbrev main_v248 : Ref sig .tc := ⟨.hbm, 469, rfl⟩
abbrev main_v249 : Ref sig .tc := ⟨.hbm, 470, rfl⟩
abbrev main_v250 : Ref sig .tc := ⟨.hbm, 471, rfl⟩
abbrev main_v251 : Ref sig .tc := ⟨.hbm, 472, rfl⟩
abbrev main_v252 : Ref sig .tc := ⟨.hbm, 473, rfl⟩
abbrev main_v253 : Ref sig .tc := ⟨.hbm, 474, rfl⟩
abbrev main_v254 : Ref sig .tc := ⟨.hbm, 475, rfl⟩
abbrev main_v255 : Ref sig .tc := ⟨.hbm, 476, rfl⟩
abbrev main_v256 : Ref sig .tc := ⟨.hbm, 477, rfl⟩
abbrev main_v257 : Ref sig .tc := ⟨.hbm, 478, rfl⟩
abbrev main_v258 : Ref sig .tc := ⟨.hbm, 479, rfl⟩
abbrev main_v259 : Ref sig .tc := ⟨.hbm, 480, rfl⟩
abbrev main_v260 : Ref sig .tc := ⟨.hbm, 481, rfl⟩
abbrev main_c_57 : Ref sig .tc := ⟨.hbm, 482, rfl⟩
abbrev main_v261 : Ref sig .tc := ⟨.hbm, 483, rfl⟩
abbrev main_v262 : Ref sig .tc := ⟨.hbm, 484, rfl⟩
abbrev main_v263 : Ref sig .tc := ⟨.hbm, 485, rfl⟩
abbrev main_v264 : Ref sig .tc := ⟨.hbm, 486, rfl⟩
abbrev main_v265 : Ref sig .tc := ⟨.hbm, 487, rfl⟩
abbrev main_v266 : Ref sig .tc := ⟨.hbm, 488, rfl⟩
abbrev main_v267 : Ref sig .tc := ⟨.hbm, 489, rfl⟩
abbrev main_v268 : Ref sig .tc := ⟨.hbm, 490, rfl⟩
abbrev main_v269 : Ref sig .tc := ⟨.hbm, 491, rfl⟩
abbrev main_v270 : Ref sig .tc := ⟨.hbm, 492, rfl⟩
abbrev main_v271 : Ref sig .tc := ⟨.hbm, 493, rfl⟩
abbrev main_v272 : Ref sig .tc := ⟨.hbm, 494, rfl⟩
abbrev main_v273 : Ref sig .tc := ⟨.hbm, 495, rfl⟩
abbrev main_v274 : Ref sig .tc := ⟨.hbm, 496, rfl⟩
abbrev main_v275 : Ref sig .tc := ⟨.hbm, 497, rfl⟩
abbrev main_c_58 : Ref sig .tc := ⟨.hbm, 498, rfl⟩
abbrev main_v276 : Ref sig .tc := ⟨.hbm, 499, rfl⟩
abbrev main_v277 : Ref sig .tc := ⟨.hbm, 500, rfl⟩
abbrev main_v278 : Ref sig .tc := ⟨.hbm, 501, rfl⟩
abbrev main_v279 : Ref sig .tc := ⟨.hbm, 502, rfl⟩
abbrev main_v280 : Ref sig .tc := ⟨.hbm, 503, rfl⟩
abbrev main_v281 : Ref sig .tc := ⟨.hbm, 504, rfl⟩
abbrev main_v282 : Ref sig .tc := ⟨.hbm, 505, rfl⟩
abbrev main_v283 : Ref sig .tc := ⟨.hbm, 506, rfl⟩
abbrev main_v284 : Ref sig .tc := ⟨.hbm, 507, rfl⟩
abbrev main_v285 : Ref sig .tc := ⟨.hbm, 508, rfl⟩
abbrev main_v286 : Ref sig .tc := ⟨.hbm, 509, rfl⟩
abbrev main_v287 : Ref sig .tc := ⟨.hbm, 510, rfl⟩
abbrev main_v288 : Ref sig .tc := ⟨.hbm, 511, rfl⟩
abbrev main_v289 : Ref sig .tc := ⟨.hbm, 512, rfl⟩
abbrev main_v290 : Ref sig .tc := ⟨.hbm, 513, rfl⟩
abbrev main_c_59 : Ref sig .tc := ⟨.hbm, 514, rfl⟩
abbrev main_v291 : Ref sig .tc := ⟨.hbm, 515, rfl⟩
abbrev main_v292 : Ref sig .tc := ⟨.hbm, 516, rfl⟩
abbrev main_v293 : Ref sig .tc := ⟨.hbm, 517, rfl⟩
abbrev main_v294 : Ref sig .tc := ⟨.hbm, 518, rfl⟩
abbrev main_v295 : Ref sig .tc := ⟨.hbm, 519, rfl⟩
abbrev main_v296 : Ref sig .tc := ⟨.hbm, 520, rfl⟩
abbrev main_v297 : Ref sig .tc := ⟨.hbm, 521, rfl⟩
abbrev main_v298 : Ref sig .tc := ⟨.hbm, 522, rfl⟩
abbrev main_v299 : Ref sig .tc := ⟨.hbm, 523, rfl⟩
abbrev main_v300 : Ref sig .tc := ⟨.hbm, 524, rfl⟩
abbrev main_v301 : Ref sig .tc := ⟨.hbm, 525, rfl⟩
abbrev main_v302 : Ref sig .tc := ⟨.hbm, 526, rfl⟩
abbrev main_v303 : Ref sig .tc := ⟨.hbm, 527, rfl⟩
abbrev main_v304 : Ref sig .tc := ⟨.hbm, 528, rfl⟩
abbrev main_v305 : Ref sig .tc := ⟨.hbm, 529, rfl⟩

abbrev nD : Nat := 1
abbrev τ : Topo := Topo.v7x

variable {F : FTy → Type} [FloatOps F]
-- ==== Proof.HostArrays.lean ====
/-
  What the kernel's host code hands to the pallas_call, as functions of the arguments: the kept edges' source and cell words,
  the 700000 rows of summed features, the 700000 counts, and the node types as a column.
-/
module

public import proofs.«01_k».proof.Proof.Gen.KernelIdeal.Value
public import Idealize.ShloMosaic.Lib.Pointwise
public import Idealize.ShloMosaic.Lib.Claim
public import Idealize.ShloMosaic.Lib.StableHlo.ReadAt

@[expose] public section

set_option maxRecDepth 16384

noncomputable section

namespace Rgcn.K

open Cert.KernelIdeal Cert.KernelIdeal.Gen
open Idealize.ShloMosaic Idealize.ShloMosaic.TcCoe Idealize.SL.Sem

/-- jnp's wrap of negative indices into an axis of `n`. -/
def wrapped (n : BitVec 32) (v : IVec S2560000 32) : IVec S2560000 32 :=
  select (cmpi .slt v (broadcastInDim S2560000 ![] bcast_S_S2560000 (constantI S_ 32 0#32)))
    (addi v (broadcastInDim S2560000 ![] bcast_S_S2560000 (constantI S_ 32 n))) v

/-- The kept edges' source nodes. -/
def src (ei : IVec S2x3200000 32) : IVec S2560000 32 :=
  shapeCast S2560000 (extractStridedSlice S1x2560000 ![0, 640000] ei slices_S2x3200000_S1x2560000_0_640000) shapeCasts_S1x2560000_S2560000

/-- The kept edges' cells: target node times seven plus edge type. -/
def flat (ei : IVec S2x3200000 32) (et : IVec S3200000 32) : IVec S2560000 32 :=
  addi (muli (shapeCast S2560000 (extractStridedSlice S1x2560000 ![1, 640000] ei slices_S2x3200000_S1x2560000_1_640000)
      shapeCasts_S1x2560000_S2560000) (broadcastInDim S2560000 ![] bcast_S_S2560000 (constantI S_ 32 7#32)))
    (extractStridedSlice S2560000 ![640000] et slices_S3200000_S2560000_640000)

/-- A vector of words as a column. -/
def col (v : IVec S2560000 32) : IVec S2560000x1 32 := broadcastInDim S2560000x1 ![0] bcast_S2560000_S2560000x1_0 v

/-- The rows of `x` that the words of the column `i` name. -/
def take (x : FVec Ideal S100000x128 .f32) (i : IVec S2560000x1 32) : FVec Ideal S2560000x128 .f32 :=
  select (broadcastInDim S2560000x128 ![0] bcast_S2560000_S2560000x128_0
      (Host.reduce IntOp.andi (andi (cmpi .sge i (broadcastInDim S2560000x1 ![] bcast_S_S2560000x1 (constantI S_ 32 0#32)))
        (cmpi .sle i (broadcastInDim S2560000x1 ![0, 1] bcast_S1x1_S2560000x1_0_1
          (broadcastInDim S1x1 ![1] bcast_S1_S1x1_1 (constantI S1 32 99999#32)))))
        (constantI S_ 1 1#1) reducesTo_S2560000x1_S2560000_d1 h_S_))
    (Host.gather gather_S100000x128_S2560000x1_S2560000x128_1_0_n_n_0_1_1128 x i)
    (broadcastInDim S2560000x128 ![] bcast_S_S2560000x128 (constant S_ .f32 0x7FC00000#32))

/-- Each cell's sum of the source features of its edges. -/
def agg (x : FVec Ideal S100000x128 .f32) (ei : IVec S2x3200000 32) (et : IVec S3200000 32) : FVec Ideal S700000x128 .f32 :=
  Host.scatterAdd scatter_S700000x128_S2560000x1_S2560000x128_1_0_0_1
    (broadcastInDim S700000x128 ![] bcast_S_S700000x128 (constant S_ .f32 0x00000000#32))
    (col (wrapped 700000#32 (flat ei et))) (take x (col (wrapped 100000#32 (src ei))))

/-- Each cell's number of edges. -/
def cnt (ei : IVec S2x3200000 32) (et : IVec S3200000 32) : FVec Ideal S700000 .f32 :=
  Host.scatterAdd scatter_S700000_S2560000x1_S2560000_n_0_0_1
    (broadcastInDim S700000 ![] bcast_S_S700000 (constant S_ .f32 0x00000000#32))
    (col (wrapped 700000#32 (flat ei et))) (broadcastInDim S2560000 ![] bcast_S_S2560000 (constant S_ .f32 0x3F800000#32))

variable (m : (ℓ : Loc nD τ sig) → Buf (Elt Ideal) ℓ)

theorem V_sums (c : Dev nD) : V m c main_v27 = shapeCast S100000x896
    (agg (m (c, Proc.tc.devRef main_arg0)) (m (c, Proc.tc.devRef main_arg2)) (m (c, Proc.tc.devRef main_arg3)))
    shapeCasts_S700000x128_S100000x896 := by
  show StableHlo.after _ _ _ = _
  simp only [hostOps0, hostOps0_1, hostOps0_2, List.flatten_cons, List.flatten_nil, List.append_nil, List.cons_append, List.nil_append]
  after_reads_simp
  simp only [StableHlo.TRef.ofBuf_toBuf]
  simp only [StableHlo.TRef.ofBuf, StableHlo.TRef.toBuf, cast_eq]
  unfold agg take col wrapped src flat
  rfl

theorem V_counts (c : Dev nD) : V m c main_v28 = shapeCast S100000x7
    (cnt (m (c, Proc.tc.devRef main_arg2)) (m (c, Proc.tc.devRef main_arg3))) shapeCasts_S700000_S100000x7 := by
  show StableHlo.after _ _ _ = _
  simp only [hostOps0, hostOps0_1, hostOps0_2, List.flatten_cons, List.flatten_nil, List.append_nil, List.cons_append, List.nil_append]
  after_reads_simp
  rfl

theorem V_types (c : Dev nD) : V m c main_v5
    = shapeCast S100000x1 (m (c, Proc.tc.devRef main_arg4)) shapeCasts_S100000_S100000x1 := by
  show StableHlo.after _ _ _ = _
  simp only [hostOps0, hostOps0_1, hostOps0_2, List.flatten_cons, List.flatten_nil, List.append_nil, List.cons_append, List.nil_append]
  after_reads_simp
  rfl

end Rgcn.K

end
-- ==== Proof.Scatter.lean ====
/-
  A scatter that adds rows into a matrix, or scalars into a vector, by ONE index word per update, read at an element:
  the element's first value plus the updates whose word is the element's row. At any sizes; words are read signed, and a
  word outside the array lands nowhere.
-/
module

public import Idealize.ShloMosaic.Lib.Pointwise
public import Idealize.ShloMosaic.Lib.Routing.OpsPair

@[expose] public section

noncomputable section

namespace Rgcn

open Idealize.ShloMosaic

/-- The words of an `[E, 1]` table of indices, one per update, as a scatter whose updates have their row number on axis 0
    looks them up. -/
theorem word_of {N E w : Nat} {s u : Shape} (d : ScatterDims s ⟨2, ![E, 1]⟩ u) (hu : d.uScatter.length = 1)
    (j : u.Idx) (e : Fin E) (he : ∀ a ∈ d.uScatter, (j a).val = e.val) (hs : d.scatterDimsToOperandDims.length = 1)
    (hi : d.indexVectorDim = 1) (c : Fin d.scatterDimsToOperandDims.length) : d.siIdx j c = ix2 e (0 : Fin 1) := by
  funext b
  apply Fin.ext
  match b with
  | ⟨0, _⟩ =>
    unfold ScatterDims.siIdx
    rw [dif_neg (by rw [hi]; exact Nat.zero_ne_one)]
    unfold ScatterDims.siCoord
    simp only [Fin.val_cast]
    exact he _ (List.getElem_mem _)
  | ⟨1, _⟩ =>
    unfold ScatterDims.siIdx
    rw [dif_pos (by rw [hi])]
    have := c.isLt
    show c.val = 0
    omega

/-- The entry `(e, k')` of the updates lands at `(n, k)` exactly when row `e`'s word is `n` and the columns agree. -/
theorem rows_land {N C E w : Nat} (d : ScatterDims ⟨2, ![N, C]⟩ ⟨2, ![E, 1]⟩ ⟨2, ![E, C]⟩) (hw : d.updateWindowDims = [1])
    (hn : d.insertedWindowDims = [0]) (hs : d.scatterDimsToOperandDims = [0]) (hi : d.indexVectorDim = 1)
    (idx : IVec ⟨2, ![E, 1]⟩ w) (e : Fin E) (k' : Fin C) (n : Fin N) (k : Fin C) :
    d.resultIdx? (ix2 e k') idx = some (ix2 n k) ↔ (idx (ix2 e (0 : Fin 1))).toInt = (n.val : Int) ∧ k' = k := by
  have hm : (0 : Fin 2) ∈ d.scatterDimsToOperandDims := by rw [hs]; exact List.mem_singleton.2 rfl
  have hk : d.uScatter = [0] := by
    show (⟨2, ![E, C]⟩ : Shape).kept d.updateWindowDims = _
    rw [hw]; rfl
  have hsk : d.sKept = [1] := by
    show (⟨2, ![N, C]⟩ : Shape).kept d.insertedWindowDims = _
    rw [hn]; rfl
  have hst : d.start (ix2 e k') idx 0 = (idx (ix2 e (0 : Fin 1))).toInt := by
    unfold ScatterDims.start
    rw [dif_pos hm, word_of (N := N) (w := w) d (by rw [hk]; rfl) _ e (fun a ha => by
      rw [hk] at ha; rw [List.mem_singleton.1 ha]; rfl) (by rw [hs]; rfl) hi]
  have hst1 : d.start (ix2 e k') idx 1 = 0 := by
    unfold ScatterDims.start
    rw [dif_neg (by rw [hs]; exact fun h => absurd (List.mem_singleton.1 h) (by decide : ¬ (1 : Fin 2) = 0))]
  have hw0 : d.window (ix2 e k') 0 = 0 := by
    unfold ScatterDims.window
    rw [dif_neg (by rw [hsk]; exact fun h => absurd (List.mem_singleton.1 h) (by decide : ¬ (0 : Fin 2) = 1))]
  have hw1 : d.window (ix2 e k') 1 = k'.val := by
    unfold ScatterDims.window
    rw [dif_pos (by rw [hsk]; exact List.mem_singleton.2 rfl)]
    have e1 : ∀ X : Fin 2, X ∈ d.updateWindowDims → (ix2 e k' X).val = k'.val := fun X h => by
      rw [hw] at h; rw [List.mem_singleton.1 h]; rfl
    exact e1 _ (List.getElem_mem _)
  rw [ix2_eq_valueIdx n k, Routing.resultIdx?_ix2, hst, hst1, hw0, hw1]
  constructor
  · rintro ⟨h0, h1⟩
    exact ⟨by simpa using h0, Fin.ext (by omega)⟩
  · rintro ⟨h0, rfl⟩
    exact ⟨by simpa using h0, by simp⟩

/-- Entry `e` of the updates lands at `n` exactly when its word is `n`. -/
theorem cells_land {N E w : Nat} (d : ScatterDims ⟨1, ![N]⟩ ⟨2, ![E, 1]⟩ ⟨1, ![E]⟩) (hw : d.updateWindowDims = [])
    (hn : d.insertedWindowDims = [0]) (hs : d.scatterDimsToOperandDims = [0]) (hi : d.indexVectorDim = 1)
    (idx : IVec ⟨2, ![E, 1]⟩ w) (e : Fin E) (n : Fin N) :
    d.resultIdx? (ix1 e) idx = some (ix1 n) ↔ (idx (ix2 e (0 : Fin 1))).toInt = (n.val : Int) := by
  have hm : (0 : Fin 1) ∈ d.scatterDimsToOperandDims := by rw [hs]; exact List.mem_singleton.2 rfl
  have hk : d.uScatter = [0] := by
    show (⟨1, ![E]⟩ : Shape).kept d.updateWindowDims = _
    rw [hw]; rfl
  have hst : d.start (ix1 e) idx 0 = (idx (ix2 e (0 : Fin 1))).toInt := by
    unfold ScatterDims.start
    rw [dif_pos hm, word_of (N := N) (w := w) d (by rw [hk]; rfl) _ e (fun a ha => by
      rw [hk] at ha; rw [List.mem_singleton.1 ha]; rfl) (by rw [hs]; rfl) hi]
  have hw0 : d.window (ix1 e) 0 = 0 := by
    unfold ScatterDims.window
    rw [dif_neg fun h => (of_decide_eq_true (List.mem_filter.1 h).2) (by rw [hn]; exact List.mem_singleton.2 rfl)]
  rw [ix1_eq_valueIdx n, Routing.resultIdx?_ix1, hst, hw0]
  simp

/-- A scatter that adds rows, at an element. -/
theorem scatterAdd_rows {N C E w : Nat} {φ : FTy} (d : ScatterDims ⟨2, ![N, C]⟩ ⟨2, ![E, 1]⟩ ⟨2, ![E, C]⟩)
    (hw : d.updateWindowDims = [1]) (hn : d.insertedWindowDims = [0]) (hs : d.scatterDimsToOperandDims = [0])
    (hi : d.indexVectorDim = 1) (x : FVec Ideal ⟨2, ![N, C]⟩ φ) (idx : IVec ⟨2, ![E, 1]⟩ w) (upd : FVec Ideal ⟨2, ![E, C]⟩ φ)
    (n : Fin N) (k : Fin C) :
    Host.scatterAdd d x idx upd (ix2 n k)
      = (x (ix2 n k) : EReal) + ∑ e : Fin E, if (idx (ix2 e (0 : Fin 1))).toInt = (n.val : Int) then (upd (ix2 e k) : EReal) else 0 := by
  show (x (ix2 n k) : EReal) + ∑ j ∈ Finset.univ.filter (fun j => d.resultIdx? j idx = some (ix2 n k)), (upd j : EReal) = _
  rw [Finset.sum_filter, sum_idx2]
  refine congrArg _ (Finset.sum_congr rfl fun e _ => ?_)
  simp only [rows_land d hw hn hs hi idx]
  by_cases h : (idx (ix2 e (0 : Fin 1))).toInt = (n.val : Int)
  · simp [h]
  · simp [h]

/-- A scatter that adds scalars, at an element. -/
theorem scatterAdd_cells {N E w : Nat} {φ : FTy} (d : ScatterDims ⟨1, ![N]⟩ ⟨2, ![E, 1]⟩ ⟨1, ![E]⟩)
    (hw : d.updateWindowDims = []) (hn : d.insertedWindowDims = [0]) (hs : d.scatterDimsToOperandDims = [0])
    (hi : d.indexVectorDim = 1) (x : FVec Ideal ⟨1, ![N]⟩ φ) (idx : IVec ⟨2, ![E, 1]⟩ w) (upd : FVec Ideal ⟨1, ![E]⟩ φ)
    (n : Fin N) :
    Host.scatterAdd d x idx upd (ix1 n)
      = (x (ix1 n) : EReal) + ∑ e : Fin E, if (idx (ix2 e (0 : Fin 1))).toInt = (n.val : Int) then (upd (ix1 e) : EReal) else 0 := by
  show (x (ix1 n) : EReal) + ∑ j ∈ Finset.univ.filter (fun j => d.resultIdx? j idx = some (ix1 n)), (upd j : EReal) = _
  rw [Finset.sum_filter, sum_idx1]
  simp only [cells_land d hw hn hs hi idx]

end Rgcn

end
-- ==== Proof.Take.lean ====
/-
  Rows taken from a table of 100000 rows by words that name rows of it: jnp's wrap of a negative index and its guard on
  the index's range then change nothing, and entry `(e, k)` is the table's at the row that word `e` names.
-/
module

public import Idealize.ShloMosaic.Lib.Pointwise
public import Idealize.ShloMosaic.Lib.Routing.Ops
public import Idealize.ShloMosaic.Lib.Routing.OpsPair
public import Idealize.ShloMosaic.Lib.ReduceAll

@[expose] public section

noncomputable section

namespace Rgcn

open Idealize.ShloMosaic

/-- A small word reads the same signed and unsigned. -/
theorem toInt_small {a : BitVec 32} (h : a.toNat < 2 ^ 31) : a.toInt = (a.toNat : Int) :=
  StableHlo.Predicate.toInt_eq_toNat_of_lt h

/-- jnp's wrap of negative indices leaves words that are not negative as they are. -/
theorem wrap_small {s : Shape} (v a z : IVec s 32) (hz : ∀ i, z i = 0#32) (h : ∀ i, (v i).toNat < 2 ^ 31) :
    select (cmpi .slt v z) a v = v := by
  funext i
  show Scalar.select (IntOp.cmpi .slt (v i) (z i)) (a i) (v i) = v i
  rw [hz]
  exact Routing.wrap_of_lt (v i) (a i) (h i)

/-- The guarded take of rows, at an element. -/
theorem take_rows {E : Nat} (x : FVec Ideal ⟨2, ![100000, 128]⟩ .f32) (idx lo hi : IVec ⟨2, ![E, 1]⟩ 32)
    (one : IVec ⟨0, ![]⟩ 1) (fill : FVec Ideal ⟨2, ![E, 128]⟩ .f32)
    (d : GatherDims ⟨2, ![100000, 128]⟩ ⟨2, ![E, 1]⟩ ⟨2, ![E, 128]⟩)
    (hr : (⟨2, ![E, 1]⟩ : Shape).ReducesTo [1] ⟨1, ![E]⟩) (hu : 0 < (⟨0, ![]⟩ : Shape).numel)
    (hb : (⟨1, ![E]⟩ : Shape).BroadcastsInDim ⟨2, ![E, 128]⟩ ![0])
    (hoff : d.offsetDims = [1]) (hcoll : d.collapsedSliceDims = [0]) (hob : d.operandBatchingDims = [])
    (hsim : d.startIndexMap = [0]) (hivd : d.indexVectorDim = 1)
    (hlo : ∀ i, lo i = 0#32) (hhi : ∀ i, hi i = 99999#32) (hone : ∀ i, one i = 1#1)
    (row : Fin E → Fin 100000) (hrow : ∀ e, idx (ix2 e (0 : Fin 1)) = BitVec.ofNat 32 (row e).val) (e : Fin E) (k : Fin 128) :
    select (broadcastInDim ⟨2, ![E, 128]⟩ ![0] hb
        (Host.reduce IntOp.andi (andi (cmpi .sge idx lo) (cmpi .sle idx hi)) one hr hu))
      (Host.gather d x idx) fill (ix2 e k) = x (ix2 (row e) k) := by
  have hin : ∀ i, andi (cmpi .sge idx lo) (cmpi .sle idx hi) i = 1#1 := fun i => by
    have e2 : i = ix2 (i 0) (0 : Fin 1) := by
      rw [← ix2_eta i]
      exact congrArg (ix2 (i 0)) (Subsingleton.elim _ _)
    show IntOp.andi (IntOp.cmpi .sge (idx i) (lo i)) (IntOp.cmpi .sle (idx i) (hi i)) = 1#1
    have hw : idx i = BitVec.ofNat 32 (row (i 0)).val := by
      conv_lhs => rw [e2]
      exact hrow _
    have hlt := (row (i 0)).isLt
    rw [hlo, hhi, hw,
      (StableHlo.Predicate.sge_iff_toNat (by rw [BitVec.toNat_ofNat]; omega) (by decide)).2 (by simp),
      (StableHlo.Predicate.sle_iff_toNat (by rw [BitVec.toNat_ofNat]; omega) (by decide)).2 (by
        rw [BitVec.toNat_ofNat]
        show _ ≤ 99999
        omega)]
    rfl
  have h1 : broadcastInDim ⟨2, ![E, 128]⟩ ![0] hb
        (Host.reduce IntOp.andi (andi (cmpi .sge idx lo) (cmpi .sle idx hi)) one hr hu) (ix2 e k) = 1#1 :=
    Host.reduce_andi_one _ _ hr hu _ (hone _) hin
  refine (congrArg (fun b => Scalar.select b (Host.gather d x idx (ix2 e k)) (fill (ix2 e k))) h1).trans ?_
  show Host.gather d x idx (ix2 e k) = _
  rw [ix2_eq_valueIdx e k, ix2_eq_valueIdx (row e) k]
  exact Routing.gather_row d hoff hcoll hob hsim hivd x idx e k (row e)
    (by rw [← ix2_eq_valueIdx]; exact hrow e) (by norm_num)

end Rgcn

end
-- ==== Proof.Domain.lean ====
/-
  What the precondition says of the arguments: the source features and the relation weights are finite, every word of the
  edge list is below 100000 and every edge type below 7.
-/
module

public import proofs.«01_k».proof.Pre_in_range
public import Idealize.ShloMosaic.PureOps.Ideal
public import Idealize.ShloMosaic.Lib.ReduceAll
public import Idealize.ShloMosaic.Lib.WordCmp

@[expose] public section

noncomputable section

namespace Rgcn

open Idealize.ShloMosaic Cert.Pre_in_range

/-- An extended real whose absolute value is below infinity is neither infinity. -/
theorem finite_of_abs {x : EReal} (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  refine ⟨?_, ?_⟩ <;> rintro rfl <;> simp [Ideal.cmp] at h

/-- A word at least 0 and below a small bound, both by the signed comparison, is below it as a natural number. -/
theorem below_of_bits (k : Nat) (hk : k < 2 ^ 31) (x : BitVec 32)
    (h : IntOp.andi (IntOp.cmpi .sge x 0#32) (IntOp.cmpi .slt x (BitVec.ofNat 32 k)) = 1#1) : x.toNat < k := by
  rw [WordCmp.andi_sge_zero_slt_ofNat (w := 32) hk] at h
  exact (WordCmp.ofBool_decide_eq_one_iff _).1 h

/-- The arguments the claim is made for. -/
structure Domain (x : FVec Ideal S100000x128 .f32) (ei : IVec S2x3200000 32) (et : IVec S3200000 32)
    (W : FVec Ideal S7x128x128 .f32) : Prop where
  feat : ∀ i, (x i : EReal) ≠ ⊤ ∧ (x i : EReal) ≠ ⊥
  weight : ∀ i, (W i : EReal) ≠ ⊤ ∧ (W i : EReal) ≠ ⊥
  node : ∀ i, (ei i).toNat < 100000
  type : ∀ i, (et i).toNat < 7

/-- The precondition's bit, read. -/
theorem domain_of [Facts] (x xt : FVec Ideal S100000x128 .f32) (ei : IVec S2x3200000 32) (et : IVec S3200000 32)
    (nt : IVec S100000 32) (W : FVec Ideal S7x128x128 .f32) (rW : FVec Ideal S4x128x128 .f32) (rb : FVec Ideal S4x128 .f32)
    (h : fn (F := Ideal) x xt ei et nt W rW rb = fun _ => 1#1) : Domain x ei et W := by
  have h := congrFun h (fun a => a.elim0)
  dsimp only [fn, fn_part1] at h
  obtain ⟨h, h4⟩ := IntOp.andi_eq_one.1 h
  obtain ⟨h, h3⟩ := IntOp.andi_eq_one.1 h
  obtain ⟨h1, h2⟩ := IntOp.andi_eq_one.1 h
  haveI : Subsingleton S_.Idx := ⟨fun a b => funext fun i => i.elim0⟩
  exact ⟨fun i => finite_of_abs (Host.reduce_andi_all _ _ _ _ _ h1 i), fun i => finite_of_abs (Host.reduce_andi_all _ _ _ _ _ h2 i),
    fun i => below_of_bits 100000 (by norm_num) _ (Host.reduce_andi_all _ _ _ _ _ h3 i),
    fun i => below_of_bits 7 (by norm_num) _ (Host.reduce_andi_all _ _ _ _ _ h4 i)⟩

end Rgcn

end
-- ==== Proof.Cells.lean ====
/-
  The kernel's host arrays read at an element. Cell `(n, t)`, row `7 n + t` of the 700000, holds the features summed over the
  kept edges with target node `n` and edge type `t`, and the number of those edges.
-/
module

public import proofs.«01_k».proof.Proof.HostArrays
public import proofs.«01_k».proof.Proof.Scatter
public import proofs.«01_k».proof.Proof.Take
public import proofs.«01_k».proof.Proof.Domain
public import Idealize.ShloMosaic.Lib.IdealHost

@[expose] public section

set_option maxRecDepth 16384

noncomputable section

namespace Rgcn

open Idealize.ShloMosaic

/-- Edge `e` of the kept ones, among all edges. -/
abbrev kept (e : Fin 2560000) : Fin 3200000 := ⟨640000 + e.val, by have := e.isLt; omega⟩

/-- The node that a word of the edge list names. -/
def node {ei : IVec ⟨2, ![2, 3200000]⟩ 32} (h : ∀ i, (ei i).toNat < 100000) (r : Fin 2) (e : Fin 3200000) : Fin 100000 :=
  ⟨(ei (ix2 r e)).toNat, h _⟩

/-- Edge `e` goes to node `n` and has type `t`. -/
def InCell (ei : IVec ⟨2, ![2, 3200000]⟩ 32) (et : IVec ⟨1, ![3200000]⟩ 32) (n : Fin 100000) (t : Fin 7) (e : Fin 3200000) : Prop :=
  (ei (ix2 (1 : Fin 2) e)).toNat = n.val ∧ (et (ix1 e)).toNat = t.val

instance (ei : IVec ⟨2, ![2, 3200000]⟩ 32) (et : IVec ⟨1, ![3200000]⟩ 32) (n : Fin 100000) (t : Fin 7) :
    DecidablePred (InCell ei et n t) := fun _ => inferInstanceAs (Decidable (_ ∧ _))

/-- The word `7 d + t` of a node and a type does not overflow. -/
theorem flat_toNat {d t : BitVec 32} (hd : d.toNat < 100000) (ht : t.toNat < 7) : (d * 7#32 + t).toNat = d.toNat * 7 + t.toNat := by
  rw [BitVec.toNat_add, BitVec.toNat_mul]
  have : (7#32).toNat = 7 := rfl
  rw [this]
  omega

namespace K

open Cert.KernelIdeal Cert.KernelIdeal.Gen

theorem src_at (ei : IVec S2x3200000 32) (e : Fin 2560000) : src ei (ix1 e) = ei (ix2 (0 : Fin 2) (kept e)) := by
  unfold src
  pointwise

theorem flat_at (ei : IVec S2x3200000 32) (et : IVec S3200000 32) (e : Fin 2560000) :
    flat ei et (ix1 e) = ei (ix2 (1 : Fin 2) (kept e)) * 7#32 + et (ix1 (kept e)) := by
  unfold flat
  pointwise []
  rfl

theorem col_at (v : IVec S2560000 32) (e : Fin 2560000) : col v (ix2 e (0 : Fin 1)) = v (ix1 e) := by
  unfold col
  pointwise

theorem wrapped_small (n : BitVec 32) (v : IVec S2560000 32) (h : ∀ e : Fin 2560000, (v (ix1 e)).toNat < 2 ^ 31) : wrapped n v = v :=
  wrap_small v _ _ (fun _ => rfl) fun i => by rw [← ix1_eta i]; exact h _

variable {x : FVec Ideal S100000x128 .f32} {ei : IVec S2x3200000 32} {et : IVec S3200000 32}

theorem take_at (hn : ∀ i, (ei i).toNat < 100000) (e : Fin 2560000) (k : Fin 128) :
    take x (col (wrapped 100000#32 (src ei))) (ix2 e k) = x (ix2 (node hn 0 (kept e)) k) := by
  rw [wrapped_small _ _ fun e => by rw [src_at]; have := hn (ix2 0 (kept e)); omega]
  refine take_rows x _ _ _ _ _ _ _ _ _ rfl rfl rfl rfl rfl (fun _ => rfl) (fun _ => rfl) (fun _ => rfl)
    (fun e => node hn 0 (kept e)) (fun e => ?_) e k
  rw [col_at, src_at]
  unfold node
  rw [BitVec.ofNat_toNat, BitVec.setWidth_eq]

theorem word_at (hn : ∀ i, (ei i).toNat < 100000) (ht : ∀ i, (et i).toNat < 7) (n : Fin 100000) (t : Fin 7) (e : Fin 2560000) :
    (col (wrapped 700000#32 (flat ei et)) (ix2 e (0 : Fin 1))).toInt = ((7 * n.val + t.val : Nat) : Int)
      ↔ InCell ei et n t (kept e) := by
  have hf : ∀ e, (flat ei et (ix1 e)).toNat = (ei (ix2 (1 : Fin 2) (kept e))).toNat * 7 + (et (ix1 (kept e))).toNat := fun e => by
    rw [flat_at, flat_toNat (hn _) (ht _)]
  have hlt : ∀ e, (flat ei et (ix1 e)).toNat < 2 ^ 31 := fun e => by
    have h1 := hn (ix2 1 (kept e))
    have h2 := ht (ix1 (kept e))
    rw [hf]
    omega
  rw [wrapped_small _ _ hlt, col_at, toInt_small (hlt e), Nat.cast_inj, hf]
  have h2 := ht (ix1 (kept e))
  have h3 := t.isLt
  unfold InCell
  omega

/-- A cell's sum of features. -/
theorem agg_at (hn : ∀ i, (ei i).toNat < 100000) (ht : ∀ i, (et i).toNat < 7) (n : Fin 100000) (t : Fin 7) (k : Fin 128) :
    agg x ei et (ix2 (⟨7 * n.val + t.val, by have := n.isLt; have := t.isLt; omega⟩ : Fin 700000) k)
      = 0 + ∑ e : Fin 2560000, if InCell ei et n t (kept e) then (x (ix2 (node hn 0 (kept e)) k) : EReal) else 0 := by
  unfold agg
  rw [scatterAdd_rows _ rfl rfl rfl rfl]
  refine congrArg₂ (· + ·) Ideal.ofBits_zero_f32 (Finset.sum_congr rfl fun e _ => ?_)
  rw [take_at hn]
  exact if_congr (word_at hn ht n t e) rfl rfl

/-- A cell's number of edges. -/
theorem cnt_at (hn : ∀ i, (ei i).toNat < 100000) (ht : ∀ i, (et i).toNat < 7) (n : Fin 100000) (t : Fin 7) :
    cnt ei et (ix1 (⟨7 * n.val + t.val, by have := n.isLt; have := t.isLt; omega⟩ : Fin 700000))
      = 0 + ∑ e : Fin 2560000, if InCell ei et n t (kept e) then (1 : EReal) else 0 := by
  unfold cnt
  rw [scatterAdd_cells _ rfl rfl rfl rfl]
  refine congrArg₂ (· + ·) Ideal.ofBits_zero_f32 (Finset.sum_congr rfl fun e _ => ?_)
  exact if_congr (word_at hn ht n t e) Ideal.ofBits_one_f32 rfl

end K

end Rgcn

end
-- ==== Proof.Layer.lean ====
/-
  The layer at one element, as both programs compute it: a relation's share, a node type's share, and their sum in the order of
  the types.
-/
module

public import Idealize.ShloMosaic.Lib.Affine
public import Idealize.ShloMosaic.Lib.Pointwise

@[expose] public section

noncomputable section

namespace Rgcn

open Idealize.ShloMosaic

/-- A relation's share: the mean of `c` rows that sum to `s`, times a column `w` of the relation's matrix. -/
def relTerm (s : Fin 128 → EReal) (c : EReal) (w : Fin 128 → EReal) : EReal := ∑ k, Ideal.div (s k) (max c 1) * w k

/-- A node type's share: the affine map of the node's own row, at nodes of that type. -/
def ownTerm (a t : BitVec 32) (x w : Fin 128 → EReal) (b : EReal) : EReal := (if a = t then 1 else 0) * ((∑ k, x k * w k) + b)

/-- All relations' shares and all node types' shares. -/
def total (R : Fin 7 → EReal) (O : Fin 4 → EReal) : EReal :=
  R 0 + R 1 + R 2 + R 3 + R 4 + R 5 + R 6 + O 0 + O 1 + O 2 + O 3

/-- A bit that is not one is zero. -/
theorem bit_zero {b : BitVec 1} : ¬b = 1#1 → b = 0#1 := by
  revert b
  decide

/-- A comparison's bit, widened and read as a signed integer. -/
theorem sitofp_eq (a b : BitVec 32) :
    FloatOps.sitofp (F := Ideal) .f32 (BitVec.setWidth 32 (IntOp.cmpi .eq a b)) = (if a = b then 1 else 0 : EReal) := by
  by_cases h : a = b
  · rw [if_pos h, IntOp.cmpi_eq.2 h]
    show ((((1#1).setWidth 32).toInt : ℝ) : EReal) = 1
    norm_num
  · rw [if_neg h, bit_zero fun e => h (IntOp.cmpi_eq.1 e)]
    show ((((0#1).setWidth 32).toInt : ℝ) : EReal) = 0
    norm_num

/-- A bit read as an unsigned integer. -/
theorem uitofp_bit (b : BitVec 1) : FloatOps.uitofp (F := Ideal) .f32 b = (if b = 1#1 then 1 else 0 : EReal) := by
  show ((b.toNat : ℝ) : EReal) = _
  by_cases h : b = 1#1
  · rw [if_pos h, h]; norm_num
  · rw [if_neg h, bit_zero h]; norm_num

end Rgcn

end
-- ==== Proof.Block.lean ====
/-
  The kernel's block at one element, and the whole output array: every element is the layer's value over the kernel's host arrays.
-/
module

public import proofs.«01_k».proof.Proof.Cells
public import proofs.«01_k».proof.Proof.Layer
public import Idealize.ShloMosaic.Lib.Pipeline.ValueKit

@[expose] public section

set_option maxRecDepth 16384

noncomputable section

namespace Rgcn.K

open Cert.KernelIdeal Cert.KernelIdeal.Gen Idealize.ShloMosaic Idealize.ShloMosaic.TcCoe Idealize.SL.Sem

/-- Feature `k` of relation `t` among the 896 columns of a row of sums. -/
abbrev column (t : Fin 7) (k : Fin 128) : Fin 896 := ⟨128 * t.val + k.val, by have := t.isLt; have := k.isLt; omega⟩

/-- The block that a grid point writes, at an element. -/
theorem out_at (x0 : FVec Ideal S2000x896 .f32) (x1 : FVec Ideal S2000x7 .f32) (x2 : FVec Ideal S2000x128 .f32)
    (x3 : IVec S2000x1 32) (x4 : FVec Ideal S7x128x128 .f32) (x5 : FVec Ideal S4x128x128 .f32) (x6 : FVec Ideal S4x128 .f32)
    (r : Fin 2000) (j : Fin 128) :
    (out0_7 (F := Ideal) x0 x1 x2 x3 x4 x5 x6 (ix2 r j) : EReal)
      = total (fun t => relTerm (fun k => x0 (ix2 r (column t k))) (x1 (ix2 r t)) fun k => x4 (ix3 t k j))
          (fun t => ownTerm (x3 (ix2 r (0 : Fin 1))) (BitVec.ofNat 32 t.val) (fun k => x2 (ix2 r k)) (fun k => x5 (ix3 t k j))
            (x6 (ix2 t j))) := by
  unfold out0_7
  frame_out
  unfold_payloads
  pointwise []
  simp only [sitofp_eq]
  unfold total relTerm ownTerm
  have h0 : ∀ k : Fin 128, (⟨k.val, by have := k.isLt; omega⟩ : Fin 896) = column 0 k := fun k => Fin.ext (Nat.zero_add _).symm
  simp only [h0]
  rfl

/-- The layer over the arrays handed to the pallas_call. -/
def layer (s : FVec Ideal S100000x896 .f32) (q : FVec Ideal S100000x7 .f32) (xt : FVec Ideal S100000x128 .f32)
    (nt : IVec S100000x1 32) (W : FVec Ideal S7x128x128 .f32) (rW : FVec Ideal S4x128x128 .f32) (rb : FVec Ideal S4x128 .f32)
    (n : Fin 100000) (j : Fin 128) : EReal :=
  total (fun t => relTerm (fun k => s (ix2 n (column t k))) (q (ix2 n t)) fun k => W (ix3 t k j))
    (fun t => ownTerm (nt (ix2 n (0 : Fin 1))) (BitVec.ofNat 32 t.val) (fun k => xt (ix2 n k)) (fun k => rW (ix3 t k j)) (rb (ix2 t j)))

/-- Every window's block index at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![0, 0, 0] ∧ win0_6.index t = ![0, 0]
    ∧ win0_7.index t = ![t.val, 0] :=
  (by decide +kernel : ∀ t : Fin grid0.N, _)

/-- Row `r` of grid point `p`'s block, among all rows. -/
abbrev row (p : Fin cfg0.N) (r : Fin 2000) : Fin 100000 :=
  ⟨p.val * 2000 + r.val, by have h : p.val < 50 := p.isLt; have := r.isLt; omega⟩

section Reads

variable (p : Fin cfg0.N) (r : Fin 2000) (k j : Fin 128)

/-! The windows' blocks, as places of any contents of their arrays. -/

theorem place0 (k : Fin 896) : (win0_0.blk p).view.emb (ix2 r k) = ix2 (row p r) k := by
  blk_ext [idx p]
theorem place1 (k : Fin 7) : (win0_1.blk p).view.emb (ix2 r k) = ix2 (row p r) k := by
  blk_ext [idx p]
theorem place2 : (win0_2.blk p).view.emb (ix2 r k) = ix2 (row p r) k := by
  blk_ext [idx p]
theorem place3 : (win0_3.blk p).view.emb (ix2 r (0 : Fin 1)) = ix2 (row p r) (0 : Fin 1) := by
  blk_ext [idx p]
theorem place4 (t : Fin 7) : (win0_4.blk p).view.emb (ix3 t k j) = ix3 t k j := by
  blk_ext [idx p]
theorem place5 (t : Fin 4) : (win0_5.blk p).view.emb (ix3 t k j) = ix3 t k j := by
  blk_ext [idx p]
theorem place6 (t : Fin 4) : (win0_6.blk p).view.emb (ix2 t j) = ix2 t j := by
  blk_ext [idx p]
theorem place7 : (win0_7.blk p).view.emb (ix2 r j) = ix2 (row p r) j := by
  blk_ext [idx p]

/-! The blocks of any contents of their arrays read at an element: the contents at that place. -/

variable {c : Dev nD}

theorem read0 (k : Fin 896) (A : Buf (Elt Ideal) ((c : Thread nD τ).loc main_v27)) :
    ((cfg0.win 0).blk p).view.read (Elt Ideal) A (ix2 r k) = A (ix2 (row p r) k) :=
  congrArg A (place0 p r k)
theorem read1 (k : Fin 7) (A : Buf (Elt Ideal) ((c : Thread nD τ).loc main_v28)) :
    ((cfg0.win 1).blk p).view.read (Elt Ideal) A (ix2 r k) = A (ix2 (row p r) k) :=
  congrArg A (place1 p r k)
theorem read2 (A : Buf (Elt Ideal) ((c : Thread nD τ).loc main_arg1)) :
    ((cfg0.win 2).blk p).view.read (Elt Ideal) A (ix2 r k) = A (ix2 (row p r) k) :=
  congrArg A (place2 p r k)
theorem read3 (A : Buf (Elt Ideal) ((c : Thread nD τ).loc main_v5)) :
    ((cfg0.win 3).blk p).view.read (Elt Ideal) A (ix2 r (0 : Fin 1)) = A (ix2 (row p r) (0 : Fin 1)) :=
  congrArg A (place3 p r)
theorem read4 (t : Fin 7) (A : Buf (Elt Ideal) ((c : Thread nD τ).loc main_arg5)) :
    ((cfg0.win 4).blk p).view.read (Elt Ideal) A (ix3 t k j) = A (ix3 t k j) :=
  congrArg A (place4 p k j t)
theorem read5 (t : Fin 4) (A : Buf (Elt Ideal) ((c : Thread nD τ).loc main_arg6)) :
    ((cfg0.win 5).blk p).view.read (Elt Ideal) A (ix3 t k j) = A (ix3 t k j) :=
  congrArg A (place5 p k j t)
theorem read6 (t : Fin 4) (A : Buf (Elt Ideal) ((c : Thread nD τ).loc main_arg7)) :
    ((cfg0.win 6).blk p).view.read (Elt Ideal) A (ix2 t j) = A (ix2 t j) :=
  congrArg A (place6 p j t)

end Reads

end Rgcn.K
-- ==== Proof.Whole.lean ====
/-
  The whole output array after the pallas_call: every element is the layer's value over the arrays handed to it.
-/
module

public import proofs.«01_k».proof.Proof.Block

@[expose] public section

set_option maxRecDepth 16384

noncomputable section

namespace Rgcn.K

open Cert.KernelIdeal Cert.KernelIdeal.Gen Idealize.ShloMosaic Idealize.ShloMosaic.TcCoe Idealize.SL.Sem

variable (m : (ℓ : Loc nD τ sig) → Buf (Elt Ideal) ℓ) (c : Dev nD)

/-! Each window's block at an element, by what its array holds (`A`). -/

section Blocks

variable (p : Fin cfg0.N) (r : Fin 2000) (k j : Fin 128)

theorem iblk0 (k : Fin 896) {A : Buf (Elt Ideal) ((c : Thread nD τ).loc main_v27)} (h : V m c main_v27 = A) :
    iblk m c 0 p (ix2 r k) = A (ix2 (row p r) k) :=
  (congrFun (congrArg (((cfg0.win 0).blk p).view.read (Elt Ideal)) h) _).trans (read0 p r k A)
theorem iblk1 (k : Fin 7) {A : Buf (Elt Ideal) ((c : Thread nD τ).loc main_v28)} (h : V m c main_v28 = A) :
    iblk m c 1 p (ix2 r k) = A (ix2 (row p r) k) :=
  (congrFun (congrArg (((cfg0.win 1).blk p).view.read (Elt Ideal)) h) _).trans (read1 p r k A)
theorem iblk2 {A : Buf (Elt Ideal) ((c : Thread nD τ).loc main_arg1)} (h : V m c main_arg1 = A) :
    iblk m c 2 p (ix2 r k) = A (ix2 (row p r) k) :=
  (congrFun (congrArg (((cfg0.win 2).blk p).view.read (Elt Ideal)) h) _).trans (read2 p r k A)
theorem iblk3 {A : Buf (Elt Ideal) ((c : Thread nD τ).loc main_v5)} (h : V m c main_v5 = A) :
    iblk m c 3 p (ix2 r (0 : Fin 1)) = A (ix2 (row p r) (0 : Fin 1)) :=
  (congrFun (congrArg (((cfg0.win 3).blk p).view.read (Elt Ideal)) h) _).trans (read3 p r A)
theorem iblk4 (t : Fin 7) {A : Buf (Elt Ideal) ((c : Thread nD τ).loc main_arg5)} (h : V m c main_arg5 = A) :
    iblk m c 4 p (ix3 t k j) = A (ix3 t k j) :=
  (congrFun (congrArg (((cfg0.win 4).blk p).view.read (Elt Ideal)) h) _).trans (read4 p k j t A)
theorem iblk5 (t : Fin 4) {A : Buf (Elt Ideal) ((c : Thread nD τ).loc main_arg6)} (h : V m c main_arg6 = A) :
    iblk m c 5 p (ix3 t k j) = A (ix3 t k j) :=
  (congrFun (congrArg (((cfg0.win 5).blk p).view.read (Elt Ideal)) h) _).trans (read5 p k j t A)
theorem iblk6 (t : Fin 4) {A : Buf (Elt Ideal) ((c : Thread nD τ).loc main_arg7)} (h : V m c main_arg7 = A) :
    iblk m c 6 p (ix2 t j) = A (ix2 t j) :=
  (congrFun (congrArg (((cfg0.win 6).blk p).view.read (Elt Ideal)) h) _).trans (read6 p j t A)

end Blocks

/-- The output array is the layer over the arrays handed to the pallas_call. -/
theorem out_array {s : FVec Ideal S100000x896 .f32} {q : FVec Ideal S100000x7 .f32} {xt : FVec Ideal S100000x128 .f32}
    {nt : IVec S100000x1 32} {W : FVec Ideal S7x128x128 .f32} {rW : FVec Ideal S4x128x128 .f32} {rb : FVec Ideal S4x128 .f32}
    (h0 : V m c main_v27 = s) (h1 : V m c main_v28 = q) (h2 : V m c main_arg1 = xt) (h3 : V m c main_v5 = nt)
    (h4 : V m c main_arg5 = W) (h5 : V m c main_arg6 = rW) (h6 : V m c main_arg7 = rb) :
    (dats m 0 c).arrAt 7 cfg0.N = fun i : S100000x128.Idx => layer s q xt nt W rW rb (i 0) (i 1) := by
  refine (dats m 0 c).arrAt_eq_of_covers 7 _ (by decide +kernel) fun p hf y => ?_
  blk_simp
  rw [after0_7]
  obtain ⟨r, j, rfl⟩ : ∃ (r : Fin 2000) (j : Fin 128), y = ix2 r j := ⟨y 0, y 1, (ix2_eta y).symm⟩
  refine (out_at _ _ _ _ _ _ _ _ _).trans ?_
  refine Eq.trans ?_ (congrArg (fun i : S100000x128.Idx => layer s q xt nt W rW rb (i 0) (i 1)) (place7 p r j).symm)
  simp only [iblk0 m c p r _ h0, iblk1 m c p r _ h1, iblk2 m c p r _ h2, iblk3 m c p r h3, iblk4 m c p _ _ _ h4,
    iblk5 m c p _ _ _ h5, iblk6 m c p _ _ h6]
  rfl

end Rgcn.K

end
-- ==== Proof.RefTerms.lean ====
/-
  The reference's result as a sum of terms of two kinds: a relation's share, for each of the seven edge types, and a node type's
  share, for each of the four.
-/
module

public import proofs.«01_k».proof.Proof.Gen.ReferenceIdeal.Run
public import Idealize.ShloMosaic.Lib.Pointwise

@[expose] public section

set_option maxRecDepth 16384

noncomputable section

namespace Rgcn.R

open Cert.ReferenceIdeal Cert.ReferenceIdeal.Gen Cert.ReferenceIdeal.Value
open Idealize.ShloMosaic Idealize.ShloMosaic.TcCoe Idealize.SL.Sem

/-- jnp's wrap of negative indices into the nodes. -/
def wrapped (v : IVec S3200000 32) : IVec S3200000 32 :=
  select (cmpi .slt v (broadcastInDim S3200000 ![] bcast_S_S3200000 (constantI S_ 32 0#32)))
    (addi v (broadcastInDim S3200000 ![] bcast_S_S3200000 (constantI S_ 32 100000#32))) v

/-- A vector of words as a column. -/
def col (v : IVec S3200000 32) : IVec S3200000x1 32 := broadcastInDim S3200000x1 ![0] bcast_S3200000_S3200000x1_0 v

/-- All edges' source nodes. -/
def src (ei : IVec S2x3200000 32) : IVec S3200000 32 :=
  shapeCast S3200000 (extractStridedSlice S1x3200000 ![0, 0] ei slices_S2x3200000_S1x3200000_0_0) shapeCasts_S1x3200000_S3200000

/-- All edges' target nodes. -/
def dst (ei : IVec S2x3200000 32) : IVec S3200000 32 :=
  shapeCast S3200000 (extractStridedSlice S1x3200000 ![1, 0] ei slices_S2x3200000_S1x3200000_1_0) shapeCasts_S1x3200000_S3200000

/-- The 0/1 weights of the edges of type `t` past the skipped ones. -/
def weight (et : IVec S3200000 32) (t : BitVec 32) : FVec Ideal S3200000 .f32 :=
  uitofp .f32 (andi (cmpi .eq et (broadcastInDim S3200000 ![] bcast_S_S3200000 (constantI S_ 32 t)))
    (noti (cmpi .slt (iotaInDim S3200000 32 0) (broadcastInDim S3200000 ![] bcast_S_S3200000 (constantI S_ 32 640000#32)))))

/-- The rows of `x` that the words of the column `i` name. -/
def take (x : FVec Ideal S100000x128 .f32) (i : IVec S3200000x1 32) : FVec Ideal S3200000x128 .f32 :=
  select (broadcastInDim S3200000x128 ![0] bcast_S3200000_S3200000x128_0
      (Host.reduce IntOp.andi (andi (cmpi .sge i (broadcastInDim S3200000x1 ![] bcast_S_S3200000x1 (constantI S_ 32 0#32)))
        (cmpi .sle i (broadcastInDim S3200000x1 ![0, 1] bcast_S1x1_S3200000x1_0_1
          (broadcastInDim S1x1 ![1] bcast_S1_S1x1_1 (constantI S1 32 99999#32)))))
        (constantI S_ 1 1#1) reducesTo_S3200000x1_S3200000_d1 h_S_))
    (Host.gather gather_S100000x128_S3200000x1_S3200000x128_1_0_n_n_0_1_1128 x i)
    (broadcastInDim S3200000x128 ![] bcast_S_S3200000x128 (constant S_ .f32 0x7FC00000#32))

/-- The relation's share: the mean over the edges of type `t` into each node of the messages, features times the matrix `w`. -/
def relation (x : FVec Ideal S100000x128 .f32) (ei : IVec S2x3200000 32) (et : IVec S3200000 32) (t : BitVec 32)
    (w : FVec Ideal S128x128 .f32) : FVec Ideal S100000x128 .f32 :=
  Host.divf
    (Host.scatterAdd scatter_S100000x128_S3200000x1_S3200000x128_1_0_0_1
      (broadcastInDim S100000x128 ![] bcast_S_S100000x128 (constant S_ .f32 0x00000000#32)) (col (wrapped (dst ei)))
      (mulf (Host.dotGeneral dot_S3200000x128_S128x128_S3200000x128_1_0_0_1_n_n none (take x (col (wrapped (src ei)))) w)
        (broadcastInDim S3200000x128 ![0, 1] bcast_S3200000x1_S3200000x128_0_1
          (broadcastInDim S3200000x1 ![0] bcast_S3200000_S3200000x1_0 (weight et t)))))
    (broadcastInDim S100000x128 ![0, 1] bcast_S100000x1_S100000x128_0_1
      (broadcastInDim S100000x1 ![0] bcast_S100000_S100000x1_0
        (maximumf (Host.scatterAdd scatter_S100000_S3200000x1_S3200000_n_0_0_1
            (broadcastInDim S100000 ![] bcast_S_S100000 (constant S_ .f32 0x00000000#32)) (col (wrapped (dst ei))) (weight et t))
          (broadcastInDim S100000 ![] bcast_S_S100000 (constant S_ .f32 0x3F800000#32)))))

/-- The node type's share: the affine map of the nodes' own rows, times the 0/1 weight of the nodes of type `t`. -/
def own (xt : FVec Ideal S100000x128 .f32) (nt : IVec S100000 32) (t : BitVec 32) (w : FVec Ideal S128x128 .f32)
    (b : FVec Ideal S128 .f32) : FVec Ideal S100000x128 .f32 :=
  mulf (broadcastInDim S100000x128 ![0, 1] bcast_S100000x1_S100000x128_0_1
      (broadcastInDim S100000x1 ![0] bcast_S100000_S100000x1_0
        (uitofp .f32 (cmpi .eq nt (broadcastInDim S100000 ![] bcast_S_S100000 (constantI S_ 32 t))))))
    (addf (Host.dotGeneral dot_S100000x128_S128x128_S100000x128_1_0_0_1_n_n none xt w)
      (broadcastInDim S100000x128 ![0, 1] bcast_S1x128_S100000x128_0_1 (broadcastInDim S1x128 ![1] bcast_S128_S1x128_1 b)))

/-- Matrix `t` of the relations'. -/
def relMat (W : FVec Ideal S7x128x128 .f32) (t : Nat) (h : S7x128x128.Slices ![t, 0, 0] S1x128x128) : FVec Ideal S128x128 .f32 :=
  shapeCast S128x128 (extractStridedSlice S1x128x128 ![t, 0, 0] W h) shapeCasts_S1x128x128_S128x128

/-- Matrix `t` of the node types'. -/
def ownMat (W : FVec Ideal S4x128x128 .f32) (t : Nat) (h : S4x128x128.Slices ![t, 0, 0] S1x128x128) : FVec Ideal S128x128 .f32 :=
  shapeCast S128x128 (extractStridedSlice S1x128x128 ![t, 0, 0] W h) shapeCasts_S1x128x128_S128x128

/-- Bias `t` of the node types'. -/
def ownVec (b : FVec Ideal S4x128 .f32) (t : Nat) (h : S4x128.Slices ![t, 0] S1x128) : FVec Ideal S128 .f32 :=
  shapeCast S128 (extractStridedSlice S1x128 ![t, 0] b h) shapeCasts_S1x128_S128

/-- The reference's result as a function of its arguments. -/
def result (x xt : FVec Ideal S100000x128 .f32) (ei : IVec S2x3200000 32) (et : IVec S3200000 32) (nt : IVec S100000 32)
    (W : FVec Ideal S7x128x128 .f32) (rW : FVec Ideal S4x128x128 .f32) (rb : FVec Ideal S4x128 .f32) : FVec Ideal S100000x128 .f32 :=
  let R := fun t h => relation x ei et (BitVec.ofNat 32 t) (relMat W t h)
  let O := fun t h h' => own xt nt (BitVec.ofNat 32 t) (ownMat rW t h) (ownVec rb t h')
  addf (addf (addf (addf (addf (addf (addf (addf (addf (addf (addf
    (broadcastInDim S100000x128 ![] bcast_S_S100000x128 (constant S_ .f32 0x00000000#32))
    (R 0 slices_S7x128x128_S1x128x128_0_0_0)) (R 1 slices_S7x128x128_S1x128x128_1_0_0)) (R 2 slices_S7x128x128_S1x128x128_2_0_0))
    (R 3 slices_S7x128x128_S1x128x128_3_0_0)) (R 4 slices_S7x128x128_S1x128x128_4_0_0)) (R 5 slices_S7x128x128_S1x128x128_5_0_0))
    (R 6 slices_S7x128x128_S1x128x128_6_0_0))
    (O 0 slices_S4x128x128_S1x128x128_0_0_0 slices_S4x128_S1x128_0_0)) (O 1 slices_S4x128x128_S1x128x128_1_0_0 slices_S4x128_S1x128_1_0))
    (O 2 slices_S4x128x128_S1x128x128_2_0_0 slices_S4x128_S1x128_2_0)) (O 3 slices_S4x128x128_S1x128x128_3_0_0 slices_S4x128_S1x128_3_0)

/-- The reference's run: its result array, and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v305) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ⟨?_, (h c).2⟩) (Value.run m ρ)
  exact (h c).1.trans rfl

end Rgcn.R

end
-- ==== Proof.Mean.lean ====
/-
  The arithmetic the two programs differ by. A mean of rows times a matrix is the mean of the rows times the matrix,
  for finite entries; a sum whose first terms are zero is the sum of the rest.
-/
module

public import Idealize.ShloMosaic.Lib.IdealHost

@[expose] public section

noncomputable section

namespace Rgcn

open Idealize.ShloMosaic

/-- A sum of `n = a + b` terms whose first `a` are zero is the sum of the last `b`. -/
theorem sum_tail {a b n : Nat} (h : a + b = n) (f : Fin n → EReal) (hf : ∀ e : Fin n, e.val < a → f e = 0) :
    ∑ e, f e = ∑ e : Fin b, f ⟨a + e.val, by omega⟩ := by
  subst h
  rw [Fin.sum_univ_add, Finset.sum_eq_zero (fun e _ => hf _ e.isLt), zero_add]
  rfl

/-- The coercion of a finite sum of reals. -/
theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- A quotient by a nonzero real is the quotient of reals. -/
theorem div_real (a : ℝ) {c : ℝ} (hc : c ≠ 0) : Ideal.div (a : EReal) (c : EReal) = ((a / c : ℝ) : EReal) := by
  have hc' : (c : EReal) ≠ 0 := by exact_mod_cast hc
  rw [Ideal.div, if_neg hc', ← EReal.coe_inv, ← EReal.coe_mul, div_eq_mul_inv]

/-- The mean over the chosen edges `e` (those with `p e`; the divisor is their number, or one if there is none) of the
    rows `x e`, times the matrix column `W`, is the mean of the products. -/
theorem mean_mul {ι κ : Type} [Fintype ι] [Fintype κ] (p : ι → Prop) [DecidablePred p] (x : ι → κ → EReal) (W : κ → EReal)
    (hx : ∀ e k, x e k ≠ ⊤ ∧ x e k ≠ ⊥) (hW : ∀ k, W k ≠ ⊤ ∧ W k ≠ ⊥) :
    ∑ k, Ideal.div (∑ e, if p e then x e k else 0) (max (∑ e, if p e then (1 : EReal) else 0) 1) * W k
      = Ideal.div (∑ e, if p e then ∑ k, x e k * W k else 0) (max (∑ e, if p e then (1 : EReal) else 0) 1) := by
  obtain ⟨x, rfl⟩ : ∃ y : ι → κ → ℝ, x = fun e k => (y e k : EReal) :=
    ⟨fun e k => (x e k).toReal, funext fun e => funext fun k => (EReal.coe_toReal (hx e k).1 (hx e k).2).symm⟩
  obtain ⟨W, rfl⟩ : ∃ y : κ → ℝ, W = fun k => (y k : EReal) :=
    ⟨fun k => (W k).toReal, funext fun k => (EReal.coe_toReal (hW k).1 (hW k).2).symm⟩
  have hcnt : max (∑ e, if p e then (1 : EReal) else 0) 1 = ((max (∑ e, if p e then (1 : ℝ) else 0) 1 : ℝ) : EReal) := by
    rw [EReal.coe_strictMono.monotone.map_max, coe_sum]
    simp only [apply_ite (fun r : ℝ => (r : EReal)), EReal.coe_one, EReal.coe_zero]
  have hrow : ∀ k, (∑ e, if p e then ((x e k : ℝ) : EReal) else 0) = ((∑ e, if p e then x e k else 0 : ℝ) : EReal) := fun k => by
    rw [coe_sum]
    simp only [apply_ite (fun r : ℝ => (r : EReal)), EReal.coe_zero]
  have hdot : (∑ e, if p e then ∑ k, (x e k : EReal) * (W k : EReal) else 0)
      = ((∑ e, if p e then ∑ k, x e k * W k else 0 : ℝ) : EReal) := by
    rw [coe_sum]
    simp only [apply_ite (fun r : ℝ => (r : EReal)), EReal.coe_zero, coe_sum, EReal.coe_mul]
  have hne : max (∑ e, if p e then (1 : ℝ) else 0) 1 ≠ 0 := (lt_of_lt_of_le one_pos (le_max_right _ _)).ne'
  rw [hcnt, hdot, div_real _ hne]
  simp only [hrow, div_real _ hne, ← EReal.coe_mul]
  rw [← coe_sum]
  refine congrArg _ ?_
  simp only [div_mul_eq_mul_div]
  rw [← Finset.sum_div]
  refine congrArg (· / _) ?_
  simp only [Finset.sum_mul]
  rw [Finset.sum_comm]
  refine Finset.sum_congr rfl fun e _ => ?_
  by_cases h : p e
  · simp only [if_pos h]
  · simp only [if_neg h, zero_mul, Finset.sum_const_zero]

/-- The mean over the last `b` edges of rows times a matrix column (the rows gathered first, the product taken once), and the mean
    over all edges of the products times a 0/1 weight that is zero on the first `a`. -/
theorem mean_masked {κ : Type} [Fintype κ] {a b n : Nat} (h : a + b = n) (p : Fin b → Prop) [DecidablePred p]
    (q : Fin n → Prop) [DecidablePred q] (w : Fin n → EReal) (x : Fin n → κ → EReal) (W : κ → EReal)
    (hw0 : ∀ e : Fin n, e.val < a → w e = 0)
    (hw : ∀ e : Fin b, (if q ⟨a + e.val, by omega⟩ then w ⟨a + e.val, by omega⟩ else 0) = if p e then (1 : EReal) else 0)
    (hx : ∀ e k, x e k ≠ ⊤ ∧ x e k ≠ ⊥) (hW : ∀ k, W k ≠ ⊤ ∧ W k ≠ ⊥) :
    ∑ k, Ideal.div (0 + ∑ e : Fin b, if p e then x ⟨a + e.val, by omega⟩ k else 0)
        (max (0 + ∑ e : Fin b, if p e then (1 : EReal) else 0) 1) * W k
      = Ideal.div (0 + ∑ e, if q e then (∑ k, x e k * W k) * w e else 0) (max (0 + ∑ e, if q e then w e else 0) 1) := by
  simp only [zero_add]
  rw [mean_mul p (fun e k => x ⟨a + e.val, by omega⟩ k) W (fun e k => hx _ k) hW,
    sum_tail h (fun e => if q e then w e else 0) fun e he => by rw [hw0 e he, ite_self],
    sum_tail h (fun e => if q e then (∑ k, x e k * W k) * w e else 0) fun e he => by rw [hw0 e he, mul_zero, ite_self]]
  simp only [hw]
  refine congrArg (fun s => Ideal.div s _) (Finset.sum_congr rfl fun e _ => ?_)
  have := hw e
  by_cases hp : p e
  · rw [if_pos hp] at this ⊢
    by_cases hq : q ⟨a + e.val, by omega⟩
    · rw [if_pos hq] at this ⊢
      rw [this, mul_one]
    · rw [if_neg hq] at this
      exact absurd this zero_ne_one
  · rw [if_neg hp] at this ⊢
    by_cases hq : q ⟨a + e.val, by omega⟩
    · rw [if_pos hq] at this ⊢
      rw [this, mul_zero]
    · rw [if_neg hq]

end Rgcn

end
-- ==== Proof.RefValue.lean ====
/-
  The reference's terms at an element: a relation's share is the mean of the messages, which is the mean of the kept edges' features
  times the matrix; a node type's share is the kernel's.
-/
module

public import proofs.«01_k».proof.Proof.RefTerms
public import proofs.«01_k».proof.Proof.Cells
public import proofs.«01_k».proof.Proof.Layer
public import proofs.«01_k».proof.Proof.Mean

@[expose] public section

set_option maxRecDepth 16384

noncomputable section

namespace Rgcn.R

open Cert.ReferenceIdeal Cert.ReferenceIdeal.Gen Idealize.ShloMosaic

variable {x xt : FVec Ideal S100000x128 .f32} {ei : IVec S2x3200000 32} {et : IVec S3200000 32}

theorem src_at (e : Fin 3200000) : src ei (ix1 e) = ei (ix2 (0 : Fin 2) e) := by
  unfold src
  pointwise

theorem dst_at (e : Fin 3200000) : dst ei (ix1 e) = ei (ix2 (1 : Fin 2) e) := by
  unfold dst
  pointwise

theorem col_at (v : IVec S3200000 32) (e : Fin 3200000) : col v (ix2 e (0 : Fin 1)) = v (ix1 e) := by
  unfold col
  pointwise

theorem wrapped_small (v : IVec S3200000 32) (h : ∀ e : Fin 3200000, (v (ix1 e)).toNat < 2 ^ 31) : wrapped v = v :=
  wrap_small v _ _ (fun _ => rfl) fun i => by rw [← ix1_eta i]; exact h _

theorem take_at (hn : ∀ i, (ei i).toNat < 100000) (e : Fin 3200000) (k : Fin 128) :
    take x (col (wrapped (src ei))) (ix2 e k) = x (ix2 (node hn 0 e) k) := by
  rw [wrapped_small _ fun e => by rw [src_at]; have := hn (ix2 0 e); omega]
  refine take_rows x _ _ _ _ _ _ _ _ _ rfl rfl rfl rfl rfl (fun _ => rfl) (fun _ => rfl) (fun _ => rfl)
    (fun e => node hn 0 e) (fun e => ?_) e k
  rw [col_at, src_at]
  unfold node
  rw [BitVec.ofNat_toNat, BitVec.setWidth_eq]

/-- A word of the targets, as the scatters read it. -/
theorem word_at (hn : ∀ i, (ei i).toNat < 100000) (n : Fin 100000) (e : Fin 3200000) :
    (col (wrapped (dst ei)) (ix2 e (0 : Fin 1))).toInt = (n.val : Int) ↔ (ei (ix2 (1 : Fin 2) e)).toNat = n.val := by
  have h := hn (ix2 1 e)
  rw [wrapped_small _ fun e => by rw [dst_at]; have := hn (ix2 1 e); omega]
  rw [col_at, dst_at, toInt_small (by omega), Nat.cast_inj]

/-- An edge's weight: one for the type's edges past the skipped ones. -/
theorem weight_at (t : BitVec 32) (e : Fin 3200000) :
    weight et t (ix1 e) = (if et (ix1 e) = t ∧ 640000 ≤ e.val then 1 else 0 : EReal) := by
  refine (uitofp_bit _).trans (if_congr ?_ rfl rfl)
  have hlt : IntOp.cmpi .slt (BitVec.ofNat 32 e.val) 640000#32 = 1#1 ↔ e.val < 640000 := by
    have := e.isLt
    exact WordCmp.cmpi_slt_ofNat_eq_one_iff (w := 32) (by omega) (by norm_num)
  refine IntOp.andi_eq_one.trans (and_congr IntOp.cmpi_eq (IntOp.not_eq_one.trans ?_))
  exact (not_congr hlt).trans not_lt

/-- The messages at an edge: the source's features times the matrix, times the edge's weight. -/
theorem message_at (hn : ∀ i, (ei i).toNat < 100000) (u : FVec Ideal S3200000 .f32) (w : FVec Ideal S128x128 .f32)
    (e : Fin 3200000) (j : Fin 128) :
    mulf (Host.dotGeneral dot_S3200000x128_S128x128_S3200000x128_1_0_0_1_n_n none (take x (col (wrapped (src ei)))) w)
        (broadcastInDim S3200000x128 ![0, 1] bcast_S3200000x1_S3200000x128_0_1
          (broadcastInDim S3200000x1 ![0] bcast_S3200000_S3200000x1_0 u)) (ix2 e j)
      = (∑ k : Fin 128, (x (ix2 (node hn 0 e) k) : EReal) * w (ix2 k j)) * u (ix1 e) := by
  have hd : ∀ y : FVec Ideal S3200000x128 .f32,
      mulf (Host.dotGeneral dot_S3200000x128_S128x128_S3200000x128_1_0_0_1_n_n none y w)
        (broadcastInDim S3200000x128 ![0, 1] bcast_S3200000x1_S3200000x128_0_1
          (broadcastInDim S3200000x1 ![0] bcast_S3200000_S3200000x1_0 u)) (ix2 e j)
      = (∑ k : Fin 128, (y (ix2 e k) : EReal) * w (ix2 k j)) * u (ix1 e) := fun y => by
    pointwise
  rw [hd]
  simp only [take_at hn]

/-- A quotient by the count, or by one where the count is less, at an element. -/
theorem mean_at (a : FVec Ideal S100000x128 .f32) (c : FVec Ideal S100000 .f32) (n : Fin 100000) (j : Fin 128) :
    Host.divf a (broadcastInDim S100000x128 ![0, 1] bcast_S100000x1_S100000x128_0_1
      (broadcastInDim S100000x1 ![0] bcast_S100000_S100000x1_0
        (maximumf c (broadcastInDim S100000 ![] bcast_S_S100000 (constant S_ .f32 0x3F800000#32))))) (ix2 n j)
      = Ideal.div (a (ix2 n j)) (max (c (ix1 n) : EReal) 1) := by
  pointwise

/-- The sum of rows over the edges into a node, at an element. -/
theorem sums_at (hn : ∀ i, (ei i).toNat < 100000) (u : FVec Ideal S3200000x128 .f32) (n : Fin 100000) (j : Fin 128) :
    Host.scatterAdd scatter_S100000x128_S3200000x1_S3200000x128_1_0_0_1
      (broadcastInDim S100000x128 ![] bcast_S_S100000x128 (constant S_ .f32 0x00000000#32)) (col (wrapped (dst ei))) u (ix2 n j)
      = 0 + ∑ e : Fin 3200000, if (ei (ix2 (1 : Fin 2) e)).toNat = n.val then (u (ix2 e j) : EReal) else 0 := by
  rw [scatterAdd_rows _ rfl rfl rfl rfl]
  exact congrArg₂ (· + ·) Ideal.ofBits_zero_f32 (Finset.sum_congr rfl fun e _ => if_congr (word_at hn n e) rfl rfl)

/-- The sum of weights over the edges into a node. -/
theorem counts_at (hn : ∀ i, (ei i).toNat < 100000) (u : FVec Ideal S3200000 .f32) (n : Fin 100000) :
    Host.scatterAdd scatter_S100000_S3200000x1_S3200000_n_0_0_1
      (broadcastInDim S100000 ![] bcast_S_S100000 (constant S_ .f32 0x00000000#32)) (col (wrapped (dst ei))) u (ix1 n)
      = 0 + ∑ e : Fin 3200000, if (ei (ix2 (1 : Fin 2) e)).toNat = n.val then (u (ix1 e) : EReal) else 0 := by
  rw [scatterAdd_cells _ rfl rfl rfl rfl]
  exact congrArg₂ (· + ·) Ideal.ofBits_zero_f32 (Finset.sum_congr rfl fun e _ => if_congr (word_at hn n e) rfl rfl)

/-- A relation's share at an element. -/
theorem relation_at (hn : ∀ i, (ei i).toNat < 100000) (t : BitVec 32) (w : FVec Ideal S128x128 .f32) (n : Fin 100000) (j : Fin 128) :
    relation x ei et t w (ix2 n j)
      = Ideal.div (0 + ∑ e : Fin 3200000, if (ei (ix2 (1 : Fin 2) e)).toNat = n.val
            then (∑ k : Fin 128, (x (ix2 (node hn 0 e) k) : EReal) * w (ix2 k j)) * weight et t (ix1 e) else 0)
          (max (0 + ∑ e : Fin 3200000, if (ei (ix2 (1 : Fin 2) e)).toNat = n.val then (weight et t (ix1 e) : EReal) else 0) 1) := by
  unfold relation
  rw [mean_at, sums_at hn, counts_at hn]
  simp only [message_at hn]

/-- A relation's share is the mean of the kept edges' features times the matrix. -/
theorem relation_eq {x : FVec Ideal S100000x128 .f32} {W : FVec Ideal S7x128x128 .f32} (D : Domain x ei et W) (t : Fin 7)
    (w : FVec Ideal S128x128 .f32) (hw : ∀ k j, w (ix2 k j) = W (ix3 t k j)) (n : Fin 100000) (j : Fin 128) :
    relation x ei et (BitVec.ofNat 32 t.val) w (ix2 n j)
      = relTerm (fun k => 0 + ∑ e : Fin 2560000, if InCell ei et n t (kept e) then (x (ix2 (node D.node 0 (kept e)) k) : EReal) else 0)
          (0 + ∑ e : Fin 2560000, if InCell ei et n t (kept e) then (1 : EReal) else 0) (fun k => W (ix3 t k j)) := by
  rw [relation_at D.node]
  simp only [hw]
  refine (mean_masked (a := 640000) (b := 2560000) (n := 3200000) rfl (fun e => InCell ei et n t (kept e))
    (fun e => (ei (ix2 (1 : Fin 2) e)).toNat = n.val) (fun e => weight et (BitVec.ofNat 32 t.val) (ix1 e))
    (fun e k => x (ix2 (node D.node 0 e) k)) (fun k => W (ix3 t k j)) (fun e he => ?_) (fun e => ?_)
    (fun e k => D.feat _) (fun k => D.weight _)).symm
  · rw [weight_at, if_neg fun h => absurd h.2 (by omega)]
  · have ht : et (ix1 (kept e)) = BitVec.ofNat 32 t.val ↔ (et (ix1 (kept e))).toNat = t.val := by
      rw [← BitVec.toNat_inj, BitVec.toNat_ofNat, Nat.mod_eq_of_lt (by have := t.isLt; omega)]
    rw [weight_at, ← ite_and]
    refine if_congr ?_ rfl rfl
    refine and_congr_right fun _ => ?_
    rw [ht]
    exact and_iff_left (Nat.le_add_right _ _)

/-- A node type's share at an element. -/
theorem own_at (nt : IVec S100000 32) (t : BitVec 32) (w : FVec Ideal S128x128 .f32) (b : FVec Ideal S128 .f32)
    (n : Fin 100000) (j : Fin 128) :
    own xt nt t w b (ix2 n j) = ownTerm (nt (ix1 n)) t (fun k => xt (ix2 n k)) (fun k => w (ix2 k j)) (b (ix1 j)) := by
  unfold own ownTerm
  pointwise []
  refine congrArg (· * _) ((uitofp_bit _).trans (if_congr IntOp.cmpi_eq rfl rfl))

theorem relMat_at (W : FVec Ideal S7x128x128 .f32) (t : Fin 7) (h : S7x128x128.Slices ![t.val, 0, 0] S1x128x128) (k j : Fin 128) :
    relMat W t.val h (ix2 k j) = W (ix3 t k j) := by
  unfold relMat
  pointwise

theorem ownMat_at (W : FVec Ideal S4x128x128 .f32) (t : Fin 4) (h : S4x128x128.Slices ![t.val, 0, 0] S1x128x128) (k j : Fin 128) :
    ownMat W t.val h (ix2 k j) = W (ix3 t k j) := by
  unfold ownMat
  pointwise

theorem ownVec_at (b : FVec Ideal S4x128 .f32) (t : Fin 4) (h : S4x128.Slices ![t.val, 0] S1x128) (j : Fin 128) :
    ownVec b t.val h (ix1 j) = b (ix2 t j) := by
  unfold ownVec
  pointwise

end Rgcn.R

end
-- ==== Proof.Equal.lean ====
/-
  One layer, two programs: at arguments in the domain, the reference's result at an element and the kernel's layer over its host
  arrays at that element are the same sum of shares.
-/
module

public import proofs.«01_k».proof.Proof.RefValue
public import proofs.«01_k».proof.Proof.Block

@[expose] public section

set_option maxRecDepth 16384

noncomputable section

namespace Rgcn

open Idealize.ShloMosaic

/-- The layer's value at node `n`, feature `j`, of the arguments. -/
def value {x : FVec Ideal ⟨2, ![100000, 128]⟩ .f32} {ei : IVec ⟨2, ![2, 3200000]⟩ 32} (hn : ∀ i, (ei i).toNat < 100000)
    (xt : FVec Ideal ⟨2, ![100000, 128]⟩ .f32) (et : IVec ⟨1, ![3200000]⟩ 32) (nt : IVec ⟨1, ![100000]⟩ 32)
    (W : FVec Ideal ⟨3, ![7, 128, 128]⟩ .f32) (rW : FVec Ideal ⟨3, ![4, 128, 128]⟩ .f32) (rb : FVec Ideal ⟨2, ![4, 128]⟩ .f32)
    (n : Fin 100000) (j : Fin 128) : EReal :=
  total (fun t => relTerm
      (fun k => 0 + ∑ e : Fin 2560000, if InCell ei et n t (kept e) then (x (ix2 (node hn 0 (kept e)) k) : EReal) else 0)
      (0 + ∑ e : Fin 2560000, if InCell ei et n t (kept e) then (1 : EReal) else 0) fun k => W (ix3 t k j))
    (fun t => ownTerm (nt (ix1 n)) (BitVec.ofNat 32 t.val) (fun k => xt (ix2 n k)) (fun k => rW (ix3 t k j)) (rb (ix2 t j)))

namespace R

open Cert.ReferenceIdeal Cert.ReferenceIdeal.Gen

/-- The reference's sum of eleven arrays, started from zeros, at an element. -/
theorem sum_at (a0 a1 a2 a3 a4 a5 a6 b0 b1 b2 b3 : FVec Ideal S100000x128 .f32) (n : Fin 100000) (j : Fin 128) :
    addf (addf (addf (addf (addf (addf (addf (addf (addf (addf (addf
      (broadcastInDim S100000x128 ![] bcast_S_S100000x128 (constant S_ .f32 0x00000000#32))
      a0) a1) a2) a3) a4) a5) a6) b0) b1) b2) b3 (ix2 n j)
      = (a0 (ix2 n j) + a1 (ix2 n j) + a2 (ix2 n j) + a3 (ix2 n j) + a4 (ix2 n j) + a5 (ix2 n j) + a6 (ix2 n j)
          + b0 (ix2 n j) + b1 (ix2 n j) + b2 (ix2 n j) + b3 (ix2 n j) : EReal) := by
  have h : (Ideal.ofBits .f32 0x00000000#32 : EReal) + a0 (ix2 n j) = a0 (ix2 n j) := by
    rw [Ideal.ofBits_zero_f32, zero_add]
  exact congrArg (fun z : EReal => z + a1 (ix2 n j) + a2 (ix2 n j) + a3 (ix2 n j) + a4 (ix2 n j) + a5 (ix2 n j) + a6 (ix2 n j)
          + b0 (ix2 n j) + b1 (ix2 n j) + b2 (ix2 n j) + b3 (ix2 n j)) h

variable {x : FVec Ideal S100000x128 .f32} {ei : IVec S2x3200000 32} {et : IVec S3200000 32} {W : FVec Ideal S7x128x128 .f32}

/-- The reference's result at an element. -/
theorem result_at (D : Domain x ei et W) (xt : FVec Ideal S100000x128 .f32) (nt : IVec S100000 32)
    (rW : FVec Ideal S4x128x128 .f32) (rb : FVec Ideal S4x128 .f32) (n : Fin 100000) (j : Fin 128) :
    result x xt ei et nt W rW rb (ix2 n j) = value (x := x) D.node xt et nt W rW rb n j := by
  have hR := fun (t : Fin 7) h => relation_eq D t (relMat W t.val h) (fun k j => relMat_at W t h k j) n j
  have hO : ∀ (t : Fin 4) h h', own xt nt (BitVec.ofNat 32 t.val) (ownMat rW t.val h) (ownVec rb t.val h') (ix2 n j)
      = ownTerm (nt (ix1 n)) (BitVec.ofNat 32 t.val) (fun k => xt (ix2 n k)) (fun k => rW (ix3 t k j)) (rb (ix2 t j)) := fun t h h' => by
    rw [own_at, ownVec_at]
    simp only [ownMat_at]
  refine (sum_at _ _ _ _ _ _ _ _ _ _ _ n j).trans ?_
  refine congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) (hR 0 _) (hR 1 _)) (hR 2 _)) (hR 3 _)) (hR 4 _))
    (hR 5 _)) (hR 6 _)) (hO 0 _ _)) (hO 1 _ _)) (hO 2 _ _)) (hO 3 _ _)

end R

namespace K

open Cert.KernelIdeal Cert.KernelIdeal.Gen

/-- The sums as the kernel's blocks see them: row `n` of seven relations' rows side by side. -/
theorem sums_cast (a : FVec Ideal S700000x128 .f32) (n : Fin 100000) (t : Fin 7) (k : Fin 128) :
    shapeCast S100000x896 a shapeCasts_S700000x128_S100000x896 (ix2 n (column t k))
      = a (ix2 (⟨7 * n.val + t.val, by have := n.isLt; have := t.isLt; omega⟩ : Fin 700000) k) := by
  refine shapeCast_apply a _ _ _ ?_
  rw [Shape.rowMajor_val_two, Shape.rowMajor_val_two]
  show (7 * n.val + t.val) * 128 + k.val = n.val * 896 + (128 * t.val + k.val)
  omega

/-- The counts as the kernel's blocks see them. -/
theorem counts_cast (a : FVec Ideal S700000 .f32) (n : Fin 100000) (t : Fin 7) :
    shapeCast S100000x7 a shapeCasts_S700000_S100000x7 (ix2 n t)
      = a (ix1 (⟨7 * n.val + t.val, by have := n.isLt; have := t.isLt; omega⟩ : Fin 700000)) := by
  refine shapeCast_apply a _ _ _ ?_
  rw [Shape.rowMajor_val_two, Shape.rowMajor_val_one]
  show 7 * n.val + t.val = n.val * 7 + t.val
  omega

/-- The node types as the kernel's blocks see them. -/
theorem types_cast (a : IVec S100000 32) (n : Fin 100000) :
    shapeCast S100000x1 a shapeCasts_S100000_S100000x1 (ix2 n (0 : Fin 1)) = a (ix1 n) := by
  refine shapeCast_apply a _ _ _ ?_
  rw [Shape.rowMajor_val_two, Shape.rowMajor_val_one]
  show n.val = n.val * 1 + 0
  omega

/-- The layer over recast arrays. -/
theorem layer_cast (s : FVec Ideal S700000x128 .f32) (q : FVec Ideal S700000 .f32) (xt : FVec Ideal S100000x128 .f32)
    (nt : IVec S100000 32) (W : FVec Ideal S7x128x128 .f32) (rW : FVec Ideal S4x128x128 .f32) (rb : FVec Ideal S4x128 .f32)
    (n : Fin 100000) (j : Fin 128) :
    layer (shapeCast S100000x896 s shapeCasts_S700000x128_S100000x896) (shapeCast S100000x7 q shapeCasts_S700000_S100000x7) xt
        (shapeCast S100000x1 nt shapeCasts_S100000_S100000x1) W rW rb n j
      = total (fun t => relTerm
            (fun k => s (ix2 (⟨7 * n.val + t.val, by have := n.isLt; have := t.isLt; omega⟩ : Fin 700000) k))
            (q (ix1 (⟨7 * n.val + t.val, by have := n.isLt; have := t.isLt; omega⟩ : Fin 700000))) fun k => W (ix3 t k j))
          (fun t => ownTerm (nt (ix1 n)) (BitVec.ofNat 32 t.val) (fun k => xt (ix2 n k)) (fun k => rW (ix3 t k j)) (rb (ix2 t j))) := by
  unfold layer
  simp only [sums_cast, counts_cast, types_cast]

variable {x : FVec Ideal S100000x128 .f32} {ei : IVec S2x3200000 32} {et : IVec S3200000 32} {W : FVec Ideal S7x128x128 .f32}

/-- The kernel's layer over its host arrays. -/
theorem layer_at (D : Domain x ei et W) (xt : FVec Ideal S100000x128 .f32) (nt : IVec S100000 32)
    (rW : FVec Ideal S4x128x128 .f32) (rb : FVec Ideal S4x128 .f32) (n : Fin 100000) (j : Fin 128) :
    layer (shapeCast S100000x896 (agg x ei et) shapeCasts_S700000x128_S100000x896)
        (shapeCast S100000x7 (cnt ei et) shapeCasts_S700000_S100000x7) xt
        (shapeCast S100000x1 nt shapeCasts_S100000_S100000x1) W rW rb n j
      = value (x := x) D.node xt et nt W rW rb n j := by
  rw [layer_cast]
  simp only [agg_at D.node D.type, cnt_at D.node D.type]
  rfl

end K

end Rgcn

end
-- ==== Proof.Result.lean ====
/-
  The kernel's output array is the reference's result of the same arguments, for arguments in the domain.
-/
module

public import proofs.«01_k».proof.Proof.Whole
public import proofs.«01_k».proof.Proof.Equal

@[expose] public section

set_option maxRecDepth 16384

noncomputable section

namespace Rgcn.K

open Cert.KernelIdeal Cert.KernelIdeal.Gen Idealize.ShloMosaic Idealize.ShloMosaic.TcCoe Idealize.SL.Sem

variable {x xt : FVec Ideal S100000x128 .f32} {ei : IVec S2x3200000 32} {et : IVec S3200000 32} {nt : IVec S100000 32}
  {W : FVec Ideal S7x128x128 .f32} {rW : FVec Ideal S4x128x128 .f32} {rb : FVec Ideal S4x128 .f32}

/-- The layer over the kernel's host arrays is the reference's result, as arrays. -/
theorem layer_eq (D : Domain x ei et W) :
    (fun i : S100000x128.Idx => layer (shapeCast S100000x896 (agg x ei et) shapeCasts_S700000x128_S100000x896)
        (shapeCast S100000x7 (cnt ei et) shapeCasts_S700000_S100000x7) xt
        (shapeCast S100000x1 nt shapeCasts_S100000_S100000x1) W rW rb (i 0) (i 1))
      = R.result x xt ei et nt W rW rb := by
  funext i
  rw [← ix2_eta i]
  exact (layer_at D xt nt rW rb (i 0) (i 1)).trans (R.result_at D xt nt rW rb (i 0) (i 1)).symm

variable (m : (ℓ : Loc nD τ sig) → Buf (Elt Ideal) ℓ) (c : Dev nD)

/-- The output array, by what the arguments hold. -/
theorem out_result (D : Domain x ei et W) (h0 : m (c, Proc.tc.devRef main_arg0) = x) (h1 : m (c, Proc.tc.devRef main_arg1) = xt)
    (h2 : m (c, Proc.tc.devRef main_arg2) = ei) (h3 : m (c, Proc.tc.devRef main_arg3) = et)
    (h4 : m (c, Proc.tc.devRef main_arg4) = nt) (h5 : m (c, Proc.tc.devRef main_arg5) = W)
    (h6 : m (c, Proc.tc.devRef main_arg6) = rW) (h7 : m (c, Proc.tc.devRef main_arg7) = rb) :
    (dats m 0 c).arrAt 7 cfg0.N = R.result x xt ei et nt W rW rb := by
  have hs := V_sums m c
  have hc := V_counts m c
  have hk := V_types m c
  rw [h0, h2, h3] at hs
  rw [h2, h3] at hc
  rw [h4] at hk
  exact (out_array m c hs hc ((V_main_arg1 m c).trans h1) hk ((V_main_arg5 m c).trans h5) ((V_main_arg6 m c).trans h6)
    ((V_main_arg7 m c).trans h7)).trans (layer_eq D)

end Rgcn.K

end
-- ==== Proof.lean ====
/-
  The certificate: both programs run and leave their arguments unchanged, the idealization is the kernel's own text, and at
  arguments in range the kernel's result is the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Result
public import Idealize.ShloMosaic.Adequacy
public import Idealize.ShloMosaic.Init

@[expose] public section

set_option maxRecDepth 16384

noncomputable section

namespace Cert.Proof

open Idealize.ShloMosaic Idealize.SL.Sem

/-- The precondition's stated facts. -/
theorem range_facts : Cert.Pre_in_range.Facts := by
  constructor <;> decide

/-- The reference's run leaves its arguments unchanged, and it has no semaphores. -/
theorem reference_frame : Cert.quiescent_ReferenceIdeal := fun m g _ =>
  (θ_run Cert.ReferenceIdeal.defs _ _).mono (fun r h => ⟨fun c => (h c).2, sem_eq_zero_of_no_sems (by decide) r.2⟩)
    (Rgcn.R.run m g)

/-- The two results are equal at arguments in range. -/
theorem algebraic [Cert.Pre_in_range.Facts] : Cert.algebraic_KernelIdeal_ReferenceIdeal_pre_in_range := by
  intro m g m' g' hpre hagree
  refine ⟨_, Cert.KernelIdeal.Value.run_blocks m g, ?_⟩
  refine (θ_run Cert.ReferenceIdeal.defs _ _).mono (fun _ h c => ⟨(h c).1.trans ?_, (h c).2⟩) (Rgcn.R.run m' g')
  obtain ⟨h0, h1, h2, h3, h4, h5, h6, h7⟩ := hagree c
  rw [h0, h1, h2, h3, h4, h5, h6, h7]
  exact (Rgcn.K.out_result m c (Rgcn.domain_of _ _ _ _ _ _ _ _ (hpre c)) rfl rfl rfl rfl rfl rfl rfl rfl).symm

theorem claim : Cert.Claim :=
  ⟨Cert.Kernel.Gen.facts, Cert.KernelIdeal.Gen.facts, Cert.ReferenceIdeal.Gen.facts, range_facts,
    fun m g _ => Cert.Kernel.Gen.frame m g, fun m g _ => Cert.KernelIdeal.Gen.frame m g, fun m g _ => Cert.KernelIdeal.Gen.frame m g,
    reference_frame, fun m g _ => reference_frame m g trivial, trivial,
    haveI := range_facts; algebraic⟩

end Cert.Proof

end
